-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_std0" .f32 0x3C6F2E3D#32 ((10000000 / 685005327 : ℝ) : EReal)
  ∧ IdealRules.named_const.Statement Cert.KernelIdeal.κ "mean_std0" .f32 0x3FE568DC#32 ((24072733 / 13431477 : ℝ) : EReal)
  ∧ IdealRules.named_const.Statement Cert.KernelIdeal.κ "inv_std1" .f32 0x3C75E325#32 ((10000000 / 666321579 : ℝ) : EReal)
  ∧ IdealRules.named_const.Statement Cert.KernelIdeal.κ "mean_std1" .f32 0x3FE044B8#32 ((22891375 / 13065129 : ℝ) : EReal)
  ∧ IdealRules.named_const.Statement Cert.KernelIdeal.κ "inv_std2" .f32 0x3C68FB47#32 ((20000000 / 1406463261 : ℝ) : EReal)
  ∧ IdealRules.named_const.Statement Cert.KernelIdeal.κ "mean_std2" .f32 0x3FBD77D7#32 ((40821073 / 27577711 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v128_0)) (v1 : (c : Dev Cert.KernelIdeal.nD) → Buf (Elt Ideal) ((c.tc : Thread Cert.KernelIdeal.nD Cert.KernelIdeal.τ).loc Cert.KernelIdeal.main_v128_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128_0) = v0 c
          ∧ r.2.mem ((c.tc : Thread Cert.KernelIdeal.nD Cert.KernelIdeal.τ).loc Cert.KernelIdeal.main_v128_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63_0) = v0 c
          ∧ r.2.mem ((c.tc : Thread Cert.ReferenceIdeal.nD Cert.ReferenceIdeal.τ).loc Cert.ReferenceIdeal.main_v63_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x2048x1536 : Shape := ⟨4, ![2, 3, 2048, 1536]⟩
abbrev S256 : Shape := ⟨1, ![256]⟩
abbrev S392 : Shape := ⟨1, ![392]⟩
abbrev S1536 : Shape := ⟨1, ![1536]⟩
abbrev S_ : Shape := ⟨0, ![]⟩
abbrev S1x1536 : Shape := ⟨2, ![1, 1536]⟩
abbrev S392x1 : Shape := ⟨2, ![392, 1]⟩
abbrev S392x1536 : Shape := ⟨2, ![392, 1536]⟩
abbrev S400x1536 : Shape := ⟨2, ![400, 1536]⟩
abbrev S20x64 : Shape := ⟨2, ![20, 64]⟩
abbrev S1x20x64 : Shape := ⟨3, ![1, 20, 64]⟩
abbrev S16x20x64 : Shape := ⟨3, ![16, 20, 64]⟩
abbrev S8x20x64 : Shape := ⟨3, ![8, 20, 64]⟩
abbrev S24x20x64 : Shape := ⟨3, ![24, 20, 64]⟩
abbrev S4 : Shape := ⟨1, ![4]⟩
abbrev S4x1x1 : Shape := ⟨3, ![4, 1, 1]⟩
abbrev S1x1x4 : Shape := ⟨3, ![1, 1, 4]⟩
abbrev S4x1x4 : Shape := ⟨3, ![4, 1, 4]⟩
abbrev S24x20x1x64x1 : Shape := ⟨5, ![24, 20, 1, 64, 1]⟩
abbrev S24x20x4x64x4 : Shape := ⟨5, ![24, 20, 4, 64, 4]⟩
abbrev S24x80x256 : Shape := ⟨3, ![24, 80, 256]⟩
abbrev S2048 : Shape := ⟨1, ![2048]⟩
abbrev S1x2048 : Shape := ⟨2, ![1, 2048]⟩
abbrev S392x2048 : Shape := ⟨2, ![392, 2048]⟩
abbrev S400x2048 : Shape := ⟨2, ![400, 2048]⟩
abbrev S400x1024 : Shape := ⟨2, ![400, 1024]⟩
abbrev S256x1 : Shape := ⟨2, ![256, 1]⟩
abbrev S256x1024 : Shape := ⟨2, ![256, 1024]⟩
abbrev S256x256x4 : Shape := ⟨3, ![256, 256, 4]⟩
abbrev S4x256x256 : Shape := ⟨3, ![4, 256, 256]⟩
abbrev S1024x256 : Shape := ⟨2, ![1024, 256]⟩
abbrev S1x1024x256 : Shape := ⟨3, ![1, 1024, 256]⟩
abbrev S2x1024x256 : Shape := ⟨3, ![2, 1024, 256]⟩
abbrev S2x784x588 : Shape := ⟨3, ![2, 784, 588]⟩
abbrev S2x1x784 : Shape := ⟨3, ![2, 1, 784]⟩
abbrev S1x1x2048x1536 : Shape := ⟨4, ![1, 1, 2048, 1536]⟩
abbrev S1x784x588 : Shape := ⟨3, ![1, 784, 588]⟩
abbrev S1x1x784 : Shape := ⟨3, ![1, 1, 784]⟩
abbrev S4x1600x128 : Shape := ⟨3, ![4, 1600, 128]⟩
abbrev S3x4x448x128 : Shape := ⟨4, ![3, 4, 448, 128]⟩
abbrev S5x800x128 : Shape := ⟨3, ![5, 800, 128]⟩
abbrev S1x1x2048x128 : Shape := ⟨4, ![1, 1, 2048, 128]⟩
abbrev S2048x128 : Shape := ⟨2, ![2048, 128]⟩
abbrev S512x128 : Shape := ⟨2, ![512, 128]⟩
abbrev S128x512 : Shape := ⟨2, ![128, 512]⟩
abbrev S512x512 : Shape := ⟨2, ![512, 512]⟩
abbrev S1x80x256 : Shape := ⟨3, ![1, 80, 256]⟩
abbrev S80x256 : Shape := ⟨2, ![80, 256]⟩
abbrev S256x512 : Shape := ⟨2, ![256, 512]⟩
abbrev S80x512 : Shape := ⟨2, ![80, 512]⟩
abbrev S56x128 : Shape := ⟨2, ![56, 128]⟩
abbrev S1x56x128 : Shape := ⟨3, ![1, 56, 128]⟩
abbrev S24x512 : Shape := ⟨2, ![24, 512]⟩
abbrev S56x512 : Shape := ⟨2, ![56, 512]⟩
abbrev S72x128 : Shape := ⟨2, ![72, 128]⟩
abbrev S1x72x128 : Shape := ⟨3, ![1, 72, 128]⟩
abbrev S8x512 : Shape := ⟨2, ![8, 512]⟩
abbrev S72x512 : Shape := ⟨2, ![72, 512]⟩
abbrev S64x128 : Shape := ⟨2, ![64, 128]⟩
abbrev S1x64x128 : Shape := ⟨3, ![1, 64, 128]⟩
abbrev S16x512 : Shape := ⟨2, ![16, 512]⟩
abbrev S64x512 : Shape := ⟨2, ![64, 512]⟩
abbrev S80x128 : Shape := ⟨2, ![80, 128]⟩
abbrev S1x80x128 : Shape := ⟨3, ![1, 80, 128]⟩
abbrev S1x400x128 : Shape := ⟨3, ![1, 400, 128]⟩
abbrev S400x128 : Shape := ⟨2, ![400, 128]⟩
abbrev S400x256 : Shape := ⟨2, ![400, 256]⟩
abbrev S1x1x400x128 : Shape := ⟨4, ![1, 1, 400, 128]⟩
abbrev S48x128 : Shape := ⟨2, ![48, 128]⟩
abbrev S1x1x48x128 : Shape := ⟨4, ![1, 1, 48, 128]⟩
abbrev S1x1x32x128 : Shape := ⟨4, ![1, 1, 32, 128]⟩
abbrev S32x128 : Shape := ⟨2, ![32, 128]⟩
abbrev S96x128 : Shape := ⟨2, ![96, 128]⟩
abbrev S128x128 : Shape := ⟨2, ![128, 128]⟩
abbrev S1x28 : Shape := ⟨2, ![1, 28]⟩
abbrev S1x784 : Shape := ⟨2, ![1, 784]⟩
abbrev S32x128x1 : Shape := ⟨3, ![32, 128, 1]⟩
abbrev S28x128 : Shape := ⟨2, ![28, 128]⟩
abbrev S1x28x128 : Shape := ⟨3, ![1, 28, 128]⟩
abbrev S28x68 : Shape := ⟨2, ![28, 68]⟩
abbrev S1x28x68 : Shape := ⟨3, ![1, 28, 68]⟩
abbrev S28x60 : Shape := ⟨2, ![28, 60]⟩
abbrev S1x28x60 : Shape := ⟨3, ![1, 28, 60]⟩
abbrev S28x8 : Shape := ⟨2, ![28, 8]⟩
abbrev S1x28x8 : Shape := ⟨3, ![1, 28, 8]⟩
abbrev S28x120 : Shape := ⟨2, ![28, 120]⟩
abbrev S1x28x120 : Shape := ⟨3, ![1, 28, 120]⟩
abbrev S28x76 : Shape := ⟨2, ![28, 76]⟩
abbrev S1x28x76 : Shape := ⟨3, ![1, 28, 76]⟩
abbrev S1x800x128 : Shape := ⟨3, ![1, 800, 128]⟩
abbrev S800x128 : Shape := ⟨2, ![800, 128]⟩
abbrev S784x128 : Shape := ⟨2, ![784, 128]⟩
abbrev S1x784x128 : Shape := ⟨3, ![1, 784, 128]⟩
abbrev S784x76 : Shape := ⟨2, ![784, 76]⟩
abbrev S1x784x76 : Shape := ⟨3, ![1, 784, 76]⟩

abbrev nBuf : Space → Nat
  | .hbm => 157
  | .vmem => 11
  | .smem => 0
  | _ => 0

abbrev hbmTy0_0 (i : Nat) : BufTy := match i % 128 with
  | 0 => ⟨S2x3x2048x1536, .i8⟩
  | 1 => ⟨S256, .i32⟩
  | 2 => ⟨S256, .i32⟩
  | 3 => ⟨S392, .f32⟩
  | 4 => ⟨S1536, .f32⟩
  | 5 => ⟨S_, .f32⟩
  | 6 => ⟨S_, .f32⟩
  | 7 => ⟨S_, .f32⟩
  | 8 => ⟨S_, .f32⟩
  | 9 => ⟨S392, .f32⟩
  | 10 => ⟨S392, .f32⟩
  | 11 => ⟨S392, .f32⟩
  | 12 => ⟨S392, .f32⟩
  | 13 => ⟨S1x1536, .f32⟩
  | 14 => ⟨S_, .f32⟩
  | 15 => ⟨S1x1536, .f32⟩
  | 16 => ⟨S1x1536, .f32⟩
  | 17 => ⟨S392x1, .f32⟩
  | 18 => ⟨S392x1536, .f32⟩
  | 19 => ⟨S392x1536, .f32⟩
  | 20 => ⟨S392x1536, .f32⟩
  | 21 => ⟨S392x1536, .f32⟩
  | 22 => ⟨S392x1536, .f32⟩
  | 23 => ⟨S392x1536, .f32⟩
  | 24 => ⟨S_, .f32⟩
  | 25 => ⟨S392x1536, .f32⟩
  | 26 => ⟨S392x1536, .f32⟩
  | 27 => ⟨S_, .f32⟩
  | 28 => ⟨S392x1536, .f32⟩
  | 29 => ⟨S392x1536, .f32⟩
  | 30 => ⟨S_, .f32⟩
  | 31 => ⟨S392, .f32⟩
  | 32 => ⟨S392x1, .f32⟩
  | 33 => ⟨S392x1536, .f32⟩
  | 34 => ⟨S392x1536, .f32⟩
  | 35 => ⟨S392x1536, .bf16⟩
  | 36 => ⟨S_, .i32⟩
  | 37 => ⟨S_, .bf16⟩
  | 38 => ⟨S400x1536, .bf16⟩
  | 39 => ⟨S20x64, .bf16⟩
  | 40 => ⟨S20x64, .bf16⟩
  | 41 => ⟨S20x64, .bf16⟩
  | 42 => ⟨S20x64, .bf16⟩
  | 43 => ⟨S20x64, .bf16⟩
  | 44 => ⟨S20x64, .bf16⟩
  | 45 => ⟨S20x64, .bf16⟩
  | 46 => ⟨S20x64, .bf16⟩
  | 47 => ⟨S20x64, .bf16⟩
  | 48 => ⟨S20x64, .bf16⟩
  | 49 => ⟨S20x64, .bf16⟩
  | 50 => ⟨S20x64, .bf16⟩
  | 51 => ⟨S20x64, .bf16⟩
  | 52 => ⟨S20x64, .bf16⟩
  | 53 => ⟨S20x64, .bf16⟩
  | 54 => ⟨S20x64, .bf16⟩
  | 55 => ⟨S20x64, .bf16⟩
  | 56 => ⟨S20x64, .bf16⟩
  | 57 => ⟨S20x64, .bf16⟩
  | 58 => ⟨S20x64, .bf16⟩
  | 59 => ⟨S20x64, .bf16⟩
  | 60 => ⟨S20x64, .bf16⟩
  | 61 => ⟨S20x64, .bf16⟩
  | 62 => ⟨S20x64, .bf16⟩
  | 63 => ⟨S1x20x64, .bf16⟩
  | 64 => ⟨S1x20x64, .bf16⟩
  | 65 => ⟨S1x20x64, .bf16⟩
  | 66 => ⟨S1x20x64, .bf16⟩
  | 67 => ⟨S1x20x64, .bf16⟩
  | 68 => ⟨S1x20x64, .bf16⟩
  | 69 => ⟨S1x20x64, .bf16⟩
  | 70 => ⟨S1x20x64, .bf16⟩
  | 71 => ⟨S1x20x64, .bf16⟩
  | 72 => ⟨S1x20x64, .bf16⟩
  | 73 => ⟨S1x20x64, .bf16⟩
  | 74 => ⟨S1x20x64, .bf16⟩
  | 75 => ⟨S1x20x64, .bf16⟩
  | 76 => ⟨S1x20x64, .bf16⟩
  | 77 => ⟨S1x20x64, .bf16⟩
  | 78 => ⟨S1x20x64, .bf16⟩
  | 79 => ⟨S1x20x64, .bf16⟩
  | 80 => ⟨S1x20x64, .bf16⟩
  | 81 => ⟨S1x20x64, .bf16⟩
  | 82 => ⟨S1x20x64, .bf16⟩
  | 83 => ⟨S1x20x64, .bf16⟩
  | 84 => ⟨S1x20x64, .bf16⟩
  | 85 => ⟨S1x20x64, .bf16⟩
  | 86 => ⟨S1x20x64, .bf16⟩
  | 87 => ⟨S16x20x64, .bf16⟩
  | 88 => ⟨S8x20x64, .bf16⟩
  | 89 => ⟨S24x20x64, .bf16⟩
  | 90 => ⟨S4, .i32⟩
  | 91 => ⟨S4x1x1, .i32⟩
  | 92 => ⟨S4, .i32⟩
  | 93 => ⟨S1x1x4, .i32⟩
  | 94 => ⟨S4x1x4, .i32⟩
  | 95 => ⟨S4x1x4, .i32⟩
  | 96 => ⟨S4x1x4, .i1⟩
  | 97 => ⟨S24x20x1x64x1, .bf16⟩
  | 98 => ⟨S_, .bf16⟩
  | 99 => ⟨S24x20x4x64x4, .i1⟩
  | 100 => ⟨S24x20x4x64x4, .bf16⟩
  | 101 => ⟨S24x20x4x64x4, .bf16⟩
  | 102 => ⟨S24x20x4x64x4, .bf16⟩
  | 103 => ⟨S24x80x256, .bf16⟩
  | 104 => ⟨S392, .f32⟩
  | 105 => ⟨S2048, .f32⟩
  | 106 => ⟨S_, .f32⟩
  | 107 => ⟨S_, .f32⟩
  | 108 => ⟨S_, .f32⟩
  | 109 => ⟨S_, .f32⟩
  | 110 => ⟨S392, .f32⟩
  | 111 => ⟨S392, .f32⟩
  | 112 => ⟨S392, .f32⟩
  | 113 => ⟨S392, .f32⟩
  | 114 => ⟨S1x2048, .f32⟩
  | 115 => ⟨S_, .f32⟩
  | 116 => ⟨S1x2048, .f32⟩
  | 117 => ⟨S1x2048, .f32⟩
  | 118 => ⟨S392x1, .f32⟩
  | 119 => ⟨S392x2048, .f32⟩
  | 120 => ⟨S392x2048, .f32⟩
  | 121 => ⟨S392x2048, .f32⟩
  | 122 => ⟨S392x2048, .f32⟩
  | 123 => ⟨S392x2048, .f32⟩
  | 124 => ⟨S392x2048, .f32⟩
  | 125 => ⟨S_, .f32⟩
  | 126 => ⟨S392x2048, .f32⟩
  | 127 => ⟨S392x2048, .f32⟩
  | _ => ⟨S2x3x2048x1536, .i8⟩

abbrev hbmTy0_1 (i : Nat) : BufTy := match i % 128 with
  | 0 => ⟨S_, .f32⟩
  | 1 => ⟨S392x2048, .f32⟩
  | 2 => ⟨S392x2048, .f32⟩
  | 3 => ⟨S_, .f32⟩
  | 4 => ⟨S392, .f32⟩
  | 5 => ⟨S392x1, .f32⟩
  | 6 => ⟨S392x2048, .f32⟩
  | 7 => ⟨S392x2048, .f32⟩
  | 8 => ⟨S392x2048, .bf16⟩
  | 9 => ⟨S_, .i32⟩
  | 10 => ⟨S_, .bf16⟩
  | 11 => ⟨S400x2048, .bf16⟩
  | 12 => ⟨S400x1024, .bf16⟩
  | 13 => ⟨S256x1, .i32⟩
  | 14 => ⟨S256x1024, .bf16⟩
  | 15 => ⟨S256x256x4, .bf16⟩
  | 16 => ⟨S4x256x256, .bf16⟩
  | 17 => ⟨S1024x256, .bf16⟩
  | 18 => ⟨S400x1024, .bf16⟩
  | 19 => ⟨S256x1, .i32⟩
  | 20 => ⟨S256x1024, .bf16⟩
  | 21 => ⟨S256x256x4, .bf16⟩
  | 22 => ⟨S4x256x256, .bf16⟩
  | 23 => ⟨S1024x256, .bf16⟩
  | 24 => ⟨S1x1024x256, .bf16⟩
  | 25 => ⟨S1x1024x256, .bf16⟩
  | 26 => ⟨S2x1024x256, .bf16⟩
  | 27 => ⟨S2x784x588, .fp8e4m3⟩
  | 28 => ⟨S2x1x784, .f32⟩
  | _ => ⟨S2x3x2048x1536, .i8⟩

abbrev hbmTy (i : Nat) : BufTy := match i / 128 with
  | 0 => hbmTy0_0 i
  | 1 => hbmTy0_1 i
  | _ => ⟨S2x3x2048x1536, .i8⟩

abbrev bufTy : (tb : Table) → Fin (tcTables nBuf tb) → BufTy
  | .hbm, ⟨i, _⟩ => hbmTy i
  | .local _ .vmem, ⟨0, _⟩ => ⟨S1x1x2048x1536, .i8⟩
  | .local _ .vmem, ⟨1, _⟩ => ⟨S1x1x2048x1536, .i8⟩
  | .local _ .vmem, ⟨2, _⟩ => ⟨S24x80x256, .bf16⟩
  | .local _ .vmem, ⟨3, _⟩ => ⟨S2x1024x256, .bf16⟩
  | .local _ .vmem, ⟨4, _⟩ => ⟨S1x784x588, .fp8e4m3⟩
  | .local _ .vmem, ⟨5, _⟩ => ⟨S1x784x588, .fp8e4m3⟩
  | .local _ .vmem, ⟨6, _⟩ => ⟨S1x1x784, .f32⟩
  | .local _ .vmem, ⟨7, _⟩ => ⟨S1x1x784, .f32⟩
  | .local _ .vmem, ⟨8, _⟩ => ⟨S4x1600x128, .f32⟩
  | .local _ .vmem, ⟨9, _⟩ => ⟨S3x4x448x128, .f32⟩
  | .local _ .vmem, ⟨10, _⟩ => ⟨S5x800x128, .f32⟩
  | _, _ => ⟨S2x3x2048x1536, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_7 : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_cst_8 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_9 : Ref sig .tc := ⟨.hbm, 106, rfl⟩
abbrev main_cst_10 : Ref sig .tc := ⟨.hbm, 107, rfl⟩
abbrev main_v90 : Ref sig .tc := ⟨.hbm, 108, rfl⟩
abbrev main_cst_11 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_cst_12 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_13 : Ref sig .tc := ⟨.hbm, 125, rfl⟩
abbrev main_v105 : Ref sig .tc := ⟨.hbm, 126, rfl⟩
abbrev main_v106 : Ref sig .tc := ⟨.hbm, 127, rfl⟩
abbrev main_cst_14 : Ref sig .tc := ⟨.hbm, 128, rfl⟩
abbrev main_v107 : Ref sig .tc := ⟨.hbm, 129, rfl⟩
abbrev main_v108 : Ref sig .tc := ⟨.hbm, 130, rfl⟩
abbrev main_cst_15 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_c_16 : Ref sig .tc := ⟨.hbm, 137, rfl⟩
abbrev main_call2_v0 : Ref sig .tc := ⟨.hbm, 138, rfl⟩
abbrev main_v114 : Ref sig .tc := ⟨.hbm, 139, rfl⟩
abbrev main_v115 : Ref sig .tc := ⟨.hbm, 140, rfl⟩
abbrev main_call3_v0 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_call4_v0 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128_0 : Ref sig .tc := ⟨.hbm, 155, rfl⟩
abbrev main_v128_1 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 3], ![false, false]⟩

def k0_off1 (i : grid0.Coords) : Fin 4 → Nat :=
  let arg1 : BitVec 32 := BitVec.ofNat 32 (i 1).val
  let v759 : Index := Scalar.indexCast arg1
  let c0_445 : Index := 0#32
  let c0_446 : Index := 0#32
  let c0_447 : Index := 0#32
  ![v759.toNat, 0, 0, 0]
def k0_off2 (i : grid0.Coords) : Fin 4 → Nat :=
  let arg1 : BitVec 32 := BitVec.ofNat 32 (i 1).val
  let v767 : Index := Scalar.indexCast arg1
  let c1_448 : Index := 1#32
  let c0_449 : Index := 0#32
  let c0_450 : Index := 0#32
  ![v767.toNat, 1, 0, 0]
def k0_off3 (i : grid0.Coords) : Fin 4 → Nat :=
  let arg1 : BitVec 32 := BitVec.ofNat 32 (i 1).val
  let v775 : Index := Scalar.indexCast arg1
  let c2_451 : Index := 2#32
  let c0_452 : Index := 0#32
  let c0_453 : Index := 0#32
  ![v775.toNat, 2, 0, 0]
def k0_off4 (i : grid0.Coords) : Fin 4 → Nat :=
  let arg1 : BitVec 32 := BitVec.ofNat 32 (i 1).val
  let v783 : Index := Scalar.indexCast arg1
  let c3_454 : Index := 3#32
  let c0_455 : Index := 0#32
  let c0_456 : Index := 0#32
  ![v783.toNat, 3, 0, 0]
def k0_cond1 (i : grid0.Coords) : BitVec 1 :=
  let arg1 : BitVec 32 := BitVec.ofNat 32 (i 1).val
  let c2_i32_457 : BitVec 32 := 2#32
  let v787 : BitVec 1 := Scalar.cmpi .eq arg1 c2_i32_457
  let v788 : BitVec 32 := Scalar.extui v787
  let c0_i32_458 : BitVec 32 := 0#32
  let v789 : BitVec 1 := Scalar.cmpi .ne v788 c0_i32_458
  v789

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048x1536 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S24x80x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x784x588 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x784 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "inv_std0" => some ((10000000 / 685005327 : ℝ) : EReal)
  | "inv_std1" => some ((10000000 / 666321579 : ℝ) : EReal)
  | "inv_std2" => some ((20000000 / 1406463261 : ℝ) : EReal)
  | "mean_std0" => some ((24072733 / 13431477 : ℝ) : EReal)
  | "mean_std1" => some ((22891375 / 13065129 : ℝ) : EReal)
  | "mean_std2" => some ((40821073 / 27577711 : ℝ) : EReal)
  | _ => none
-- ==== ReferenceIdeal.lean ====
abbrev S2x3x2048x1536 : Shape := ⟨4, ![2, 3, 2048, 1536]⟩
abbrev S392 : Shape := ⟨1, ![392]⟩
abbrev S1536 : Shape := ⟨1, ![1536]⟩
abbrev S_ : Shape := ⟨0, ![]⟩
abbrev S1x1536 : Shape := ⟨2, ![1, 1536]⟩
abbrev S392x1 : Shape := ⟨2, ![392, 1]⟩
abbrev S392x1536 : Shape := ⟨2, ![392, 1536]⟩
abbrev S2048 : Shape := ⟨1, ![2048]⟩
abbrev S1x2048 : Shape := ⟨2, ![1, 2048]⟩
abbrev S392x2048 : Shape := ⟨2, ![392, 2048]⟩
abbrev S2x3x2048x392 : Shape := ⟨4, ![2, 3, 2048, 392]⟩
abbrev S2x3x392x392 : Shape := ⟨4, ![2, 3, 392, 392]⟩
abbrev S2x3x28x14x28x14 : Shape := ⟨6, ![2, 3, 28, 14, 28, 14]⟩
abbrev S2x28x28x3x14x14 : Shape := ⟨6, ![2, 28, 28, 3, 14, 14]⟩
abbrev S2x784x588 : Shape := ⟨3, ![2, 784, 588]⟩
abbrev S2x1x784 : Shape := ⟨3, ![2, 1, 784]⟩
abbrev S2x784 : Shape := ⟨2, ![2, 784]⟩
abbrev S2x784x196 : Shape := ⟨3, ![2, 784, 196]⟩
abbrev S2x784x1 : Shape := ⟨3, ![2, 784, 1]⟩

abbrev nBuf : Space → Nat
  | .hbm => 82
  | .vmem => 3
  | .smem => 0
  | _ => 0

abbrev bufTy : (tb : Table) → Fin (tcTables nBuf tb) → BufTy
  | .hbm, ⟨0, _⟩ => ⟨S2x3x2048x1536, .i8⟩
  | .hbm, ⟨1, _⟩ => ⟨S392, .f32⟩
  | .hbm, ⟨2, _⟩ => ⟨S1536, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S392, .f32⟩
  | .hbm, ⟨10, _⟩ => ⟨S392, .f32⟩
  | .hbm, ⟨11, _⟩ => ⟨S392, .f32⟩
  | .hbm, ⟨12, _⟩ => ⟨S392, .f32⟩
  | .hbm, ⟨13, _⟩ => ⟨S1x1536, .f32⟩
  | .hbm, ⟨14, _⟩ => ⟨S_, .f32⟩
  | .hbm, ⟨15, _⟩ => ⟨S1x1536, .f32⟩
  | .hbm, ⟨16, _⟩ => ⟨S1x1536, .f32⟩
  | .hbm, ⟨17, _⟩ => ⟨S392x1, .f32⟩
  | .hbm, ⟨18, _⟩ => ⟨S392x1536, .f32⟩
  | .hbm, ⟨19, _⟩ => ⟨S392x1536, .f32⟩
  | .hbm, ⟨20, _⟩ => ⟨S392x1536, .f32⟩
  | .hbm, ⟨21, _⟩ => ⟨S392x1536, .f32⟩
  | .hbm, ⟨22, _⟩ => ⟨S392x1536, .f32⟩
  | .hbm, ⟨23, _⟩ => ⟨S392x1536, .f32⟩
  | .hbm, ⟨24, _⟩ => ⟨S_, .f32⟩
  | .hbm, ⟨25, _⟩ => ⟨S392x1536, .f32⟩
  | .hbm, ⟨26, _⟩ => ⟨S392x1536, .f32⟩
  | .hbm, ⟨27, _⟩ => ⟨S_, .f32⟩
  | .hbm, ⟨28, _⟩ => ⟨S392x1536, .f32⟩
  | .hbm, ⟨29, _⟩ => ⟨S392x1536, .f32⟩
  | .hbm, ⟨30, _⟩ => ⟨S_, .f32⟩
  | .hbm, ⟨31, _⟩ => ⟨S392, .f32⟩
  | .hbm, ⟨32, _⟩ => ⟨S392x1, .f32⟩
  | .hbm, ⟨33, _⟩ => ⟨S392x1536, .f32⟩
  | .hbm, ⟨34, _⟩ => ⟨S392x1536, .f32⟩
  | .hbm, ⟨35, _⟩ => ⟨S392x1536, .bf16⟩
  | .hbm, ⟨36, _⟩ => ⟨S392, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S392, .f32⟩
  | .hbm, ⟨45, _⟩ => ⟨S392, .f32⟩
  | .hbm, ⟨46, _⟩ => ⟨S392, .f32⟩
  | .hbm, ⟨47, _⟩ => ⟨S392, .f32⟩
  | .hbm, ⟨48, _⟩ => ⟨S1x2048, .f32⟩
  | .hbm, ⟨49, _⟩ => ⟨S_, .f32⟩
  | .hbm, ⟨50, _⟩ => ⟨S1x2048, .f32⟩
  | .hbm, ⟨51, _⟩ => ⟨S1x2048, .f32⟩
  | .hbm, ⟨52, _⟩ => ⟨S392x1, .f32⟩
  | .hbm, ⟨53, _⟩ => ⟨S392x2048, .f32⟩
  | .hbm, ⟨54, _⟩ => ⟨S392x2048, .f32⟩
  | .hbm, ⟨55, _⟩ => ⟨S392x2048, .f32⟩
  | .hbm, ⟨56, _⟩ => ⟨S392x2048, .f32⟩
  | .hbm, ⟨57, _⟩ => ⟨S392x2048, .f32⟩
  | .hbm, ⟨58, _⟩ => ⟨S392x2048, .f32⟩
  | .hbm, ⟨59, _⟩ => ⟨S_, .f32⟩
  | .hbm, ⟨60, _⟩ => ⟨S392x2048, .f32⟩
  | .hbm, ⟨61, _⟩ => ⟨S392x2048, .f32⟩
  | .hbm, ⟨62, _⟩ => ⟨S_, .f32⟩
  | .hbm, ⟨63, _⟩ => ⟨S392x2048, .f32⟩
  | .hbm, ⟨64, _⟩ => ⟨S392x2048, .f32⟩
  | .hbm, ⟨65, _⟩ => ⟨S_, .f32⟩
  | .hbm, ⟨66, _⟩ => ⟨S392, .f32⟩
  | .hbm, ⟨67, _⟩ => ⟨S392x1, .f32⟩
  | .hbm, ⟨68, _⟩ => ⟨S392x2048, .f32⟩
  | .hbm, ⟨69, _⟩ => ⟨S392x2048, .f32⟩
  | .hbm, ⟨70, _⟩ => ⟨S392x2048, .bf16⟩
  | .hbm, ⟨71, _⟩ => ⟨S2x3x2048x1536, .i32⟩
  | .hbm, ⟨72, _⟩ => ⟨S2x3x2048x1536, .f32⟩
  | .hbm, ⟨73, _⟩ => ⟨S2x3x2048x1536, .bf16⟩
  | .hbm, ⟨74, _⟩ => ⟨S2x3x2048x392, .f32⟩
  | .hbm, ⟨75, _⟩ => ⟨S2x3x2048x392, .bf16⟩
  | .hbm, ⟨76, _⟩ => ⟨S2x3x392x392, .f32⟩
  | .hbm, ⟨77, _⟩ => ⟨S2x3x28x14x28x14, .f32⟩
  | .hbm, ⟨78, _⟩ => ⟨S2x28x28x3x14x14, .f32⟩
  | .hbm, ⟨79, _⟩ => ⟨S2x784x588, .f32⟩
  | .hbm, ⟨80, _⟩ => ⟨S2x784x588, .fp8e4m3⟩
  | .hbm, ⟨81, _⟩ => ⟨S2x1x784, .f32⟩
  | .local _ .vmem, ⟨0, _⟩ => ⟨S2x784x588, .f32⟩
  | .local _ .vmem, ⟨1, _⟩ => ⟨S2x784x588, .fp8e4m3⟩
  | .local _ .vmem, ⟨2, _⟩ => ⟨S2x1x784, .f32⟩
  | _, _ => ⟨S2x3x2048x1536, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_7 : Ref sig .tc := ⟨.hbm, 38, rfl⟩
abbrev main_cst_8 : Ref sig .tc := ⟨.hbm, 39, rfl⟩
abbrev main_v29 : Ref sig .tc := ⟨.hbm, 40, rfl⟩
abbrev main_cst_9 : Ref sig .tc := ⟨.hbm, 41, rfl⟩
abbrev main_v30 : Ref sig .tc := ⟨.hbm, 42, rfl⟩
abbrev main_cst_10 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_11 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_12 : Ref sig .tc := ⟨.hbm, 59, rfl⟩
abbrev main_v45 : Ref sig .tc := ⟨.hbm, 60, rfl⟩
abbrev main_v46 : Ref sig .tc := ⟨.hbm, 61, rfl⟩
abbrev main_cst_13 : Ref sig .tc := ⟨.hbm, 62, rfl⟩
abbrev main_v47 : Ref sig .tc := ⟨.hbm, 63, rfl⟩
abbrev main_v48 : Ref sig .tc := ⟨.hbm, 64, rfl⟩
abbrev main_cst_14 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63_0 : Ref sig .tc := ⟨.hbm, 80, rfl⟩
abbrev main_v63_1 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F] [Named F]

def κ : String → Option EReal := fun
  | "mean0" => some ((24072733 / 50000000 : ℝ) : EReal)
  | "mean1" => some ((183131 / 400000 : ℝ) : EReal)
  | "mean2" => some ((40821073 / 100000000 : ℝ) : EReal)
  | "std0" => some ((13431477 / 50000000 : ℝ) : EReal)
  | "std1" => some ((13065129 / 50000000 : ℝ) : EReal)
  | "std2" => some ((27577711 / 100000000 : ℝ) : EReal)
  | _ => none

abbrev grid0 : Pipeline.Grid := .none

abbrev stage0_0 : Fin 1 → Memref sig .tc .vmem S2x784x588 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x784x588 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x784 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kernel.Resize.lean ====
/-
  The first half of the kernel's body, run once at symbolic operands: the width pass into the scratch `t1` and the
  height pass into the current channel of the scratch `v`. What is left to run is the guarded epilogue, which the
  run finds as the third component of its witness.
-/
module

public import proofs.«01_k».proof.Proof.Gen.Kernel.Frame
public import proofs.«01_k».proof.Proof.Gen.Kernel.Skeleton

@[expose] public section

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option sl_exec.stopBefore "k0_part449" in
noncomputable def resizeRun (c : Dev nD) (i : grid0.Coords)
    (M2 : Memref sig .tc .vmem S1x1x2048x1536 .i8) (h2 : M2.IsWhole) (M3 : Memref sig .tc .vmem S24x80x256 .bf16) (h3 : M3.IsWhole)
    (M4 : Memref sig .tc .vmem S2x1024x256 .bf16) (h4 : M4.IsWhole) (M5 : Memref sig .tc .vmem S1x784x588 .fp8e4m3) (h5 : M5.IsWhole)
    (M6 : Memref sig .tc .vmem S1x1x784 .f32) (h6 : M6.IsWhole) (M7 : Memref sig .tc .vmem S4x1600x128 .f32) (h7 : M7.IsWhole)
    (M8 : Memref sig .tc .vmem S3x4x448x128 .f32) (h8 : M8.IsWhole) (M9 : Memref sig .tc .vmem S5x800x128 .f32) (h9 : M9.IsWhole)
    (f2 : Bf (F := F) c M2) (f3 : Bf (F := F) c M3) (f4 : Bf (F := F) c M4) (f7 : Bf (F := F) c M7) (f8 : Bf (F := F) c M8) :
    { W : Bf (F := F) c M7 × Bf (F := F) c M8 × Prog (TpuEff nD τ sig (Elt F) Λ₀ .tc) PUnit //
      ∀ (E : Set ℕ) (Q : PUnit → sProp 𝕄),
        iprop(pt c M2 f2 ∗ pt c M3 f3 ∗ pt c M4 f4 ∗ pt c M7 f7 ∗ pt c M8 f8
          ∗ (iprop(pt c M2 f2 ∗ pt c M3 f3 ∗ pt c M4 f4 ∗ pt c M7 W.1 ∗ pt c M8 W.2.1)
              -∗ wp frame (wpE (defs₀ (F := F)) Variants.none c none) E W.2.2 Q))
        ⊢ wp frame (wpE (defs₀ (F := F)) Variants.none c none) E
            (cc0_clip_frontend i M2 h2 M3 h3 M4 h4 M5 h5 M6 h6 M7 h7 M8 h8 M9 h9) Q } := by
  refine ⟨⟨?_, ?_, ?_⟩, fun E Q => ?run⟩
  case run =>
    rw [cc0_clip_frontend_eq_skeleton]
    iintro ⟨H2, H3, H4, H7, H8, Hk⟩
    sl_exec_parts!
    iapply Hk
    isplitl [H2]; · iexact H2
    isplitl [H3]; · iexact H3
    isplitl [H4]; · iexact H4
    isplitl [H7]; · iexact H7
    iexact H8

end Cert.Kernel.Gen

end
-- ==== Proof.Kernel.Epilogue.lean ====
/-
  The second half of the kernel's body at a batch's last channel, run once at symbolic operands: the scratch `v`'s
  padding rows zeroed, the scales, the codes merged into the scratch of words and written out.
-/
module

public import proofs.«01_k».proof.Proof.Kernel.Resize

@[expose] public section

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

noncomputable def epilogueRun (c : Dev nD) (i : grid0.Coords) (hi : k0_cond1 i = 1#1)
    (M2 : Memref sig .tc .vmem S1x1x2048x1536 .i8) (h2 : M2.IsWhole) (M3 : Memref sig .tc .vmem S24x80x256 .bf16) (h3 : M3.IsWhole)
    (M4 : Memref sig .tc .vmem S2x1024x256 .bf16) (h4 : M4.IsWhole) (M5 : Memref sig .tc .vmem S1x784x588 .fp8e4m3) (h5 : M5.IsWhole)
    (M6 : Memref sig .tc .vmem S1x1x784 .f32) (h6 : M6.IsWhole) (M7 : Memref sig .tc .vmem S4x1600x128 .f32) (h7 : M7.IsWhole)
    (M8 : Memref sig .tc .vmem S3x4x448x128 .f32) (h8 : M8.IsWhole) (M9 : Memref sig .tc .vmem S5x800x128 .f32) (h9 : M9.IsWhole)
    (f2 : Bf (F := F) c M2) (f3 : Bf (F := F) c M3) (f4 : Bf (F := F) c M4) (f7 : Bf (F := F) c M7) (f8 g8 : Bf (F := F) c M8)
    (f5 : Bf (F := F) c M5) (f6 : Bf (F := F) c M6) (f9 : Bf (F := F) c M9) :
    { W : Bf (F := F) c M5 × Bf (F := F) c M6 × Bf (F := F) c M8 × Bf (F := F) c M9 //
      ∀ (E : Set ℕ) (Q : PUnit → sProp 𝕄),
        iprop(pt c M5 f5 ∗ pt c M6 f6 ∗ pt c M8 g8 ∗ pt c M9 f9
          ∗ (iprop(pt c M5 W.1 ∗ pt c M6 W.2.1 ∗ pt c M8 W.2.2.1 ∗ pt c M9 W.2.2.2) -∗ Q ⟨⟩))
        ⊢ wp frame (wpE (defs₀ (F := F)) Variants.none c none) E
            (resizeRun c i M2 h2 M3 h3 M4 h4 M5 h5 M6 h6 M7 h7 M8 h8 M9 h9 f2 f3 f4 f7 f8).1.2.2 Q } := by
  refine ⟨⟨?_, ?_, ?_, ?_⟩, fun E Q => ?run⟩
  case run =>
    dsimp only [resizeRun]
    iintro ⟨H5, H6, H8, H9, Hk⟩
    sl_exec_parts! (disch := exact hi)
    sl_step
    iapply Hk
    isplitl [H5]; · iexact H5
    isplitl [H6]; · iexact H6
    isplitl [H8]; · iexact H8
    iexact H9

end Cert.Kernel.Gen

end
-- ==== Proof.Kernel.Track.lean ====
/-
  The kernel's pipeline run from relational proof data: what is tracked of the carried scratch `v` between points and
  of the two results' blocks after a point is a parameter (`Track`), which one obligation per point (`Track.Step`)
  relates to the two runs of the body (`resizeRun`, `epilogueRun`).
-/
module

public import proofs.«01_k».proof.Proof.Kernel.Epilogue
public import Idealize.ShloMosaic.Lib.Pipeline.Frame
public import Idealize.ShloMosaic.Lib.Pipeline.FrameBody

@[expose] public section

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The operands the body is handed -/

/-- The windows' staging memrefs at a point, as the pipeline passes them. -/
abbrev ms0 (t : Fin cfg0.N) : Memref sig .tc .vmem S1x1x2048x1536 .i8 := win0_0.stage (cfg0.slots t 0)
abbrev ms1 (t : Fin cfg0.N) : Memref sig .tc .vmem S24x80x256 .bf16 := win0_1.stage (cfg0.slots t 1)
abbrev ms2 (t : Fin cfg0.N) : Memref sig .tc .vmem S2x1024x256 .bf16 := win0_2.stage (cfg0.slots t 2)
abbrev ms3 (t : Fin cfg0.N) : Memref sig .tc .vmem S1x784x588 .fp8e4m3 := win0_3.stage (cfg0.slots t 3)
abbrev ms4 (t : Fin cfg0.N) : Memref sig .tc .vmem S1x1x784 .f32 := win0_4.stage (cfg0.slots t 4)
theorem hs0 (t : Fin cfg0.N) : (ms0 t).IsWhole := hstage0_0 ((cfg0.slots t 0).cast nbuf0_0)
theorem hs1 (t : Fin cfg0.N) : (ms1 t).IsWhole := hstage0_1 ((cfg0.slots t 1).cast nbuf0_1)
theorem hs2 (t : Fin cfg0.N) : (ms2 t).IsWhole := hstage0_2 ((cfg0.slots t 2).cast nbuf0_2)
theorem hs3 (t : Fin cfg0.N) : (ms3 t).IsWhole := hstage0_3 ((cfg0.slots t 3).cast nbuf0_3)
theorem hs4 (t : Fin cfg0.N) : (ms4 t).IsWhole := hstage0_4 ((cfg0.slots t 4).cast nbuf0_4)
/-- The three scratch buffers, whole: the width pass's result, the normalised image, the code words. -/
abbrev sc0 : Memref sig .tc .vmem S4x1600x128 .f32 := Memref.whole cc0_scratch0
abbrev sc1 : Memref sig .tc .vmem S3x4x448x128 .f32 := Memref.whole cc0_scratch1
abbrev sc2 : Memref sig .tc .vmem S5x800x128 .f32 := Memref.whole cc0_scratch2

/-- The body's first half at point `t`. -/
abbrev resizeAt (c : Dev nD) (t : Fin cfg0.N) (f2 : Bf (F := F) c (ms0 t)) (f3 : Bf (F := F) c (ms1 t)) (f4 : Bf (F := F) c (ms2 t))
    (f7 : Bf (F := F) c sc0) (f8 : Bf (F := F) c sc1) :=
  resizeRun c (grid0.coords t) (ms0 t) (hs0 t) (ms1 t) (hs1 t) (ms2 t) (hs2 t) (ms3 t) (hs3 t) (ms4 t) (hs4 t)
    sc0 (Memref.isWhole_whole _) sc1 (Memref.isWhole_whole _) sc2 (Memref.isWhole_whole _) f2 f3 f4 f7 f8

/-- The body's second half at point `t`, from the contents `g8` of the scratch `v`. -/
abbrev epilogueAt (c : Dev nD) (t : Fin cfg0.N) (hi : k0_cond1 (grid0.coords t) = 1#1) (f2 : Bf (F := F) c (ms0 t)) (f3 : Bf (F := F) c (ms1 t))
    (f4 : Bf (F := F) c (ms2 t)) (f7 : Bf (F := F) c sc0) (f8 g8 : Bf (F := F) c sc1)
    (f5 : Bf (F := F) c (ms3 t)) (f6 : Bf (F := F) c (ms4 t)) (f9 : Bf (F := F) c sc2) :=
  epilogueRun c (grid0.coords t) hi (ms0 t) (hs0 t) (ms1 t) (hs1 t) (ms2 t) (hs2 t) (ms3 t) (hs3 t) (ms4 t) (hs4 t)
    sc0 (Memref.isWhole_whole _) sc1 (Memref.isWhole_whole _) sc2 (Memref.isWhole_whole _) f2 f3 f4 f7 f8 g8 f5 f6 f9

/-- Off a batch's last channel the second half does nothing. -/
theorem resizeRun_rest (c : Dev nD) (t : Fin cfg0.N) (hi : k0_cond1 (grid0.coords t) ≠ 1#1) (f2 f3 f4 f7 f8) :
    (resizeAt (F := F) c t f2 f3 f4 f7 f8).1.2.2 = pure ⟨⟩ := by
  dsimp only [resizeRun]
  exact dif_neg hi

/-! ## What is tracked -/

/-- What the proof data track: of the scratch `v` before the `n`-th point, and of the two results' blocks after a point. -/
structure Track where
  v : Dev nD → ℕ → Bf (F := F) (0 : Dev nD) sc1 → Prop
  codes : Dev nD → Fin cfg0.N → (S1x784x588.Idx → Elt F .fp8e4m3) → Prop
  scales : Dev nD → Fin cfg0.N → (S1x1x784.Idx → Elt F .f32) → Prop

/-- One point keeps what is tracked. -/
structure Track.Step (T : Track (F := F)) : Prop where
  start (c : Dev nD) (f8) : T.v c 0 f8
  mid (c : Dev nD) (t : Fin cfg0.N) (hi : k0_cond1 (grid0.coords t) ≠ 1#1) (f2 f3 f4 f7 f8)
      (h2 : (ms0 t).view.read (Elt F) f2 = iblk m c 0 t) (h3 : (ms1 t).view.read (Elt F) f3 = iblk m c 1 t)
      (h4 : (ms2 t).view.read (Elt F) f4 = iblk m c 2 t) (hv : T.v c t.val f8) :
      T.v c (t.val + 1) (resizeAt c t f2 f3 f4 f7 f8).1.2.1 ∧ (∀ X, T.codes c t X) ∧ (∀ X, T.scales c t X)
  last (c : Dev nD) (t : Fin cfg0.N) (hi : k0_cond1 (grid0.coords t) = 1#1) (f2 f3 f4 f7 f8 f5 f6 f9)
      (h2 : (ms0 t).view.read (Elt F) f2 = iblk m c 0 t) (h3 : (ms1 t).view.read (Elt F) f3 = iblk m c 1 t)
      (h4 : (ms2 t).view.read (Elt F) f4 = iblk m c 2 t) (hv : T.v c t.val f8) :
      T.v c (t.val + 1) (epilogueAt c t hi f2 f3 f4 f7 f8 (resizeAt c t f2 f3 f4 f7 f8).1.2.1 f5 f6 f9).1.2.2.1
      ∧ T.codes c t ((ms3 t).view.read (Elt F) (epilogueAt c t hi f2 f3 f4 f7 f8 (resizeAt c t f2 f3 f4 f7 f8).1.2.1 f5 f6 f9).1.1)
      ∧ T.scales c t ((ms4 t).view.read (Elt F) (epilogueAt c t hi f2 f3 f4 f7 f8 (resizeAt c t f2 f3 f4 f7 f8).1.2.1 f5 f6 f9).1.2.1)

variable (T : Track (F := F))

/-- The invariant before the `n`-th point: the scratch buffers at something, `v` at something tracked, and the generator
    register at some state. -/
def inv (c : Dev nD) (n : ℕ) : sProp 𝕄 :=
  iprop((∃ f, pt c sc0 f) ∗ (∃ f, ⌜T.v c n f⌝ ∗ pt c sc1 f) ∗ (∃ f, pt c sc2 f) ∗ ∃ r, prngReg c r)

/-- The relation a point's body leaves each staging buffer in: the inputs as found, the results as tracked. -/
def left (c : Dev nD) (t : Fin cfg0.N) : (w : Fin cfg0.W) → (Y X : (cfg0.win w).block.Idx → Elt F (cfg0.win w).elt) → Prop
  | ⟨0, _⟩, Y, X => X = Y
  | ⟨1, _⟩, Y, X => X = Y
  | ⟨2, _⟩, Y, X => X = Y
  | ⟨3, _⟩, _, X => T.codes c t X
  | ⟨4, _⟩, _, X => T.scales c t X

/-- The proof data on core `c`. -/
def rdat (c : Dev nD) : RDat τ (Elt F) Unit ℕ (UR sig nD τ) ℕ cfg0 c where
  A w := V m c (Pipeline.arrRef spec0 w)
  after w t Y X := left T c t w Y X
  Φ n := inv T c n.val
  q _ := fullShare
  owed _ := 0

theorem finds_0 (c : Dev nD) (t : Fin cfg0.N) (Y) (h : (rdat m T c).Finds 0 t Y) : Y = iblk m c 0 t := by
  obtain ⟨d, rfl⟩ := (rdat m T c).finds_in_eq_fetched 0 rfl (fun _ _ _ => rfl) (fun _ _ _ h => h) t Y h
  unfold RDat.fetched RDat.blockOf iblk; rfl
theorem finds_1 (c : Dev nD) (t : Fin cfg0.N) (Y) (h : (rdat m T c).Finds 1 t Y) : Y = iblk m c 1 t := by
  obtain ⟨d, rfl⟩ := (rdat m T c).finds_in_eq_fetched 1 rfl (fun _ _ _ => rfl) (fun _ _ _ h => h) t Y h
  unfold RDat.fetched RDat.blockOf iblk; rfl
theorem finds_2 (c : Dev nD) (t : Fin cfg0.N) (Y) (h : (rdat m T c).Finds 2 t Y) : Y = iblk m c 2 t := by
  obtain ⟨d, rfl⟩ := (rdat m T c).finds_in_eq_fetched 2 rfl (fun _ _ _ => rfl) (fun _ _ _ h => h) t Y h
  unfold RDat.fetched RDat.blockOf iblk; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

omit [FloatOps F] [∀ e, Nonempty (Elt F e)] in
/-- Owning a whole memref at `Y` is holding its buffer at contents that read `Y`. -/
theorem owns_isWhole (c : Dev nD) {sp : Space} {S : Shape} {e : EltTy} {M : Memref sig .tc sp S e} (h : M.IsWhole) (Y : S.Idx → Elt F e) :
    (owns (c : Thread nD τ) M fullShare Y : sProp 𝕄) = iprop(∃ f : Bf (F := F) c M, ⌜M.view.read (Elt F) f = Y⌝ ∗ pt c M f) := by
  unfold owns; rw [h.set_eq_univ]

/-- The invariant and the five staging buffers at given contents, the body's two halves run, everything handed back. -/
theorem body_at (hT : T.Step m) (c : Dev nD) (t : Fin cfg0.N) (Y0 Y1 Y2 Y3 Y4)
    (e0 : Y0 = iblk m c 0 t) (e1 : Y1 = iblk m c 1 t) (e2 : Y2 = iblk m c 2 t) (O : sProp 𝕄) :
    iprop(inv T c t.val ∗ O
        ∗ owns (c : Thread nD τ) (ms0 t) fullShare Y0 ∗ owns (c : Thread nD τ) (ms1 t) fullShare Y1
        ∗ owns (c : Thread nD τ) (ms2 t) fullShare Y2 ∗ owns (c : Thread nD τ) (ms3 t) fullShare Y3
        ∗ owns (c : Thread nD τ) (ms4 t) fullShare Y4)
      ⊢ wp frame (wpE (defs₀ (F := F)) Variants.none c none) Set.univ (bodyAt0 t) fun _ =>
        iprop(inv T c (t.val + 1) ∗ O
          ∗ (∃ X, ⌜X = Y0⌝ ∗ owns (c : Thread nD τ) (ms0 t) fullShare X)
          ∗ (∃ X, ⌜X = Y1⌝ ∗ owns (c : Thread nD τ) (ms1 t) fullShare X)
          ∗ (∃ X, ⌜X = Y2⌝ ∗ owns (c : Thread nD τ) (ms2 t) fullShare X)
          ∗ (∃ X, ⌜T.codes c t X⌝ ∗ owns (c : Thread nD τ) (ms3 t) fullShare X)
          ∗ (∃ X, ⌜T.scales c t X⌝ ∗ owns (c : Thread nD τ) (ms4 t) fullShare X)) := by
  simp only [owns_isWhole c (hs0 t), owns_isWhole c (hs1 t), owns_isWhole c (hs2 t), owns_isWhole c (hs3 t), owns_isWhole c (hs4 t)]
  unfold inv bodyAt0
  iintro ⟨⟨⟨%f7, H7⟩, ⟨%f8, %hv, H8⟩, ⟨%f9, H9⟩, Hg⟩, HO, ⟨%f2, %h2, H2⟩, ⟨%f3, %h3, H3⟩, ⟨%f4, %h4, H4⟩,
    ⟨%f5, %h5, H5⟩, ⟨%f6, %h6, H6⟩⟩
  iapply ((resizeAt c t f2 f3 f4 f7 f8).2 Set.univ _)
  isplitl [H2]; · iexact H2
  isplitl [H3]; · iexact H3
  isplitl [H4]; · iexact H4
  isplitl [H7]; · iexact H7
  isplitl [H8]; · iexact H8
  iintro ⟨H2, H3, H4, H7, H8⟩
  by_cases hi : k0_cond1 (grid0.coords t) = 1#1
  · obtain ⟨r8, r3, r4⟩ := hT.last c t hi f2 f3 f4 f7 f8 f5 f6 f9 (h2.trans e0) (h3.trans e1) (h4.trans e2) hv
    generalize epilogueAt c t hi f2 f3 f4 f7 f8 (resizeAt c t f2 f3 f4 f7 f8).1.2.1 f5 f6 f9 = W at r8 r3 r4
    iapply (W.2 Set.univ _)
    isplitl [H5]; · iexact H5
    isplitl [H6]; · iexact H6
    isplitl [H8]; · iexact H8
    isplitl [H9]; · iexact H9
    iintro ⟨H5, H6, H8, H9⟩
    isplitl [H7 H8 H9 Hg]
    · isplitl [H7]; · iexists _; iexact H7
      isplitl [H8]
      · iexists _; isplitr; swap; · iexact H8
        ipureintro; exact r8
      isplitl [H9]; · iexists _; iexact H9
      iexact Hg
    isplitl [HO]; · iexact HO
    isplitl [H2]
    · iexists Y0; isplitr; · ipureintro; rfl
      iexists f2; isplitr; · ipureintro; exact h2
      iexact H2
    isplitl [H3]
    · iexists Y1; isplitr; · ipureintro; rfl
      iexists f3; isplitr; · ipureintro; exact h3
      iexact H3
    isplitl [H4]
    · iexists Y2; isplitr; · ipureintro; rfl
      iexists f4; isplitr; · ipureintro; exact h4
      iexact H4
    isplitl [H5]
    · iexists _; isplitr; · ipureintro; exact r3
      iexists _; isplitr; swap; · iexact H5
      ipureintro; rfl
    iexists _; isplitr; · ipureintro; exact r4
    iexists _; isplitr; swap; · iexact H6
    ipureintro; rfl
  · obtain ⟨r8, r3, r4⟩ := hT.mid c t hi f2 f3 f4 f7 f8 (h2.trans e0) (h3.trans e1) (h4.trans e2) hv
    rw [resizeRun_rest c t hi]
    sl_step
    isplitl [H7 H8 H9 Hg]
    · isplitl [H7]; · iexists _; iexact H7
      isplitl [H8]
      · iexists _; isplitr; swap; · iexact H8
        ipureintro; exact r8
      isplitl [H9]; · iexists _; iexact H9
      iexact Hg
    isplitl [HO]; · iexact HO
    isplitl [H2]
    · iexists Y0; isplitr; · ipureintro; rfl
      iexists f2; isplitr; · ipureintro; exact h2
      iexact H2
    isplitl [H3]
    · iexists Y1; isplitr; · ipureintro; rfl
      iexists f3; isplitr; · ipureintro; exact h3
      iexact H3
    isplitl [H4]
    · iexists Y2; isplitr; · ipureintro; rfl
      iexists f4; isplitr; · ipureintro; exact h4
      iexact H4
    isplitl [H5]
    · iexists Y3; isplitr; · ipureintro; exact r3 _
      iexists f5; isplitr; · ipureintro; exact h5
      iexact H5
    iexists Y4; isplitr; · ipureintro; exact r4 _
    iexists f6; isplitr; · ipureintro; exact h6
    iexact H6

/-- The library's body obligation. -/
theorem body_obligation (hT : T.Step m) (c : Dev nD) :
    (rdat m T c).BodyObligation (defs₀ (F := F)) Variants.none () Set.univ := fun t Y hY => by
  rw [bigSep_W0, bigSep_W0, defs₀_row]
  exact triple_restated (body_at m T hT c t (Y 0) (Y 1) (Y 2) (Y 3) (Y 4) (finds_0 m T c t _ (hY 0)) (finds_1 m T c t _ (hY 1))
    (finds_2 m T c t _ (hY 2)) ((rdat m T c).owesAt () t.castSucc)) rfl .rfl fun _ => .rfl

/-! ## The launch -/

set_option backward.isDefEq.respectTransparency.types false in
/-- From any memory with zero counters every weakly fair execution of @main ends, and the final state's arrays are what
    the proof data let them be, every semaphore at zero. -/
theorem run_main (hT : T.Step m) :
    θ_run defs (onTc (τ := τ) (main (F := F))) ⟨m, fun _ => 0, ρ⟩
      (fun r => RDat.FramePost (cfgs 0) (rdat m T) (V m) r ∧ r.2.sem = fun _ => 0) :=
  RDat.θ_run_frame_track (Q' := _) cfgs (0 : Fin 1) launch0 defs₀ Variants.none (rdat m T) m ρ main
    (hbody := body_obligation m T hT) (hshare := fun c w => by unfold RDat.share; split <;> rfl)
    (howed := fun _ _ => rfl) (V := V m) (hmain := hmain m Variants.none) (hA := fun _ _ => rfl)
    (hin := fun c => by
      show _ ⊢ inv T c 0
      unfold Pipeline.ΦA inv; rw [scopedRest0_eq]
      iintro ⟨⟨H7, ⟨%f8, H8⟩, H9⟩, Hg⟩
      isplitl [H7]; · iexact H7
      isplitl [H8]
      · iexists f8; isplitr; · ipureintro; exact hT.start c f8
        iexact H8
      isplitl [H9]; · iexact H9
      iexact Hg)
    (hout := fun c => by
      show inv T c _ ⊢ _
      unfold Pipeline.ΦA inv; rw [scopedRest0_eq]
      iintro ⟨H7, ⟨%f8, -, H8⟩, H9, Hg⟩
      isplitl [H7 H8 H9]
      · isplitl [H7]; · iexact H7
        isplitl [H8]; · iexists f8; iexact H8
        iexact H9
      iexact Hg)

/-- The run leaves the argument as launched. -/
theorem arg0_kept {r : PUnit × MemSt nD τ sig (Elt F)} (h : RDat.FramePost (cfgs 0) (rdat m T) (V m) r) (c : Dev nD) :
    r.2.mem ((c.tc : Thread nD τ).loc main_arg0) = m ((c.tc : Thread nD τ).loc main_arg0) :=
  (((rdat m T c).ArrAt_in 0 rfl _) ▸ (h c).1 0).trans (V_main_arg0 m c)

/-- Nothing tracked. -/
def noTrack : Track (F := F) := ⟨fun _ _ _ => True, fun _ _ _ => True, fun _ _ _ => True⟩

theorem noTrack_step : (noTrack (F := F)).Step m :=
  ⟨fun _ _ => trivial, by intros; exact ⟨trivial, fun _ => trivial, fun _ => trivial⟩, by intros; exact ⟨trivial, trivial, trivial⟩⟩

/-- The frame claim: the run ends, the argument as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => arg0_kept m noTrack h.1 c, h.2⟩) (run_main m ρ noTrack (noTrack_step m))

end Cert.Kernel.Gen

end
-- ==== Proof.KernelIdeal.Resize.lean ====
/-
  The first half of the kernel's body, run once at symbolic operands: the width pass into the scratch `t1` and the
  height pass into the current channel of the scratch `v`. What is left to run is the guarded epilogue, which the
  run finds as the third component of its witness.
-/
module

public import proofs.«01_k».proof.Proof.Gen.KernelIdeal.Frame
public import proofs.«01_k».proof.Proof.Gen.KernelIdeal.Skeleton

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option sl_exec.stopBefore "k0_part449" in
noncomputable def resizeRun (c : Dev nD) (i : grid0.Coords)
    (M2 : Memref sig .tc .vmem S1x1x2048x1536 .i8) (h2 : M2.IsWhole) (M3 : Memref sig .tc .vmem S24x80x256 .bf16) (h3 : M3.IsWhole)
    (M4 : Memref sig .tc .vmem S2x1024x256 .bf16) (h4 : M4.IsWhole) (M5 : Memref sig .tc .vmem S1x784x588 .fp8e4m3) (h5 : M5.IsWhole)
    (M6 : Memref sig .tc .vmem S1x1x784 .f32) (h6 : M6.IsWhole) (M7 : Memref sig .tc .vmem S4x1600x128 .f32) (h7 : M7.IsWhole)
    (M8 : Memref sig .tc .vmem S3x4x448x128 .f32) (h8 : M8.IsWhole) (M9 : Memref sig .tc .vmem S5x800x128 .f32) (h9 : M9.IsWhole)
    (f2 : Bf (F := F) c M2) (f3 : Bf (F := F) c M3) (f4 : Bf (F := F) c M4) (f7 : Bf (F := F) c M7) (f8 : Bf (F := F) c M8) :
    { W : Bf (F := F) c M7 × Bf (F := F) c M8 × Prog (TpuEff nD τ sig (Elt F) Λ₀ .tc) PUnit //
      ∀ (E : Set ℕ) (Q : PUnit → sProp 𝕄),
        iprop(pt c M2 f2 ∗ pt c M3 f3 ∗ pt c M4 f4 ∗ pt c M7 f7 ∗ pt c M8 f8
          ∗ (iprop(pt c M2 f2 ∗ pt c M3 f3 ∗ pt c M4 f4 ∗ pt c M7 W.1 ∗ pt c M8 W.2.1)
              -∗ wp frame (wpE (defs₀ (F := F)) Variants.none c none) E W.2.2 Q))
        ⊢ wp frame (wpE (defs₀ (F := F)) Variants.none c none) E
            (cc0_clip_frontend i M2 h2 M3 h3 M4 h4 M5 h5 M6 h6 M7 h7 M8 h8 M9 h9) Q } := by
  refine ⟨⟨?_, ?_, ?_⟩, fun E Q => ?run⟩
  case run =>
    rw [cc0_clip_frontend_eq_skeleton]
    iintro ⟨H2, H3, H4, H7, H8, Hk⟩
    sl_exec_parts!
    iapply Hk
    isplitl [H2]; · iexact H2
    isplitl [H3]; · iexact H3
    isplitl [H4]; · iexact H4
    isplitl [H7]; · iexact H7
    iexact H8

end Cert.KernelIdeal.Gen

end
-- ==== Proof.KernelIdeal.Epilogue.lean ====
/-
  The second half of the kernel's body at a batch's last channel, run once at symbolic operands: the scratch `v`'s
  padding rows zeroed, the scales, the codes merged into the scratch of words and written out.
-/
module

public import proofs.«01_k».proof.Proof.KernelIdeal.Resize

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

noncomputable def epilogueRun (c : Dev nD) (i : grid0.Coords) (hi : k0_cond1 i = 1#1)
    (M2 : Memref sig .tc .vmem S1x1x2048x1536 .i8) (h2 : M2.IsWhole) (M3 : Memref sig .tc .vmem S24x80x256 .bf16) (h3 : M3.IsWhole)
    (M4 : Memref sig .tc .vmem S2x1024x256 .bf16) (h4 : M4.IsWhole) (M5 : Memref sig .tc .vmem S1x784x588 .fp8e4m3) (h5 : M5.IsWhole)
    (M6 : Memref sig .tc .vmem S1x1x784 .f32) (h6 : M6.IsWhole) (M7 : Memref sig .tc .vmem S4x1600x128 .f32) (h7 : M7.IsWhole)
    (M8 : Memref sig .tc .vmem S3x4x448x128 .f32) (h8 : M8.IsWhole) (M9 : Memref sig .tc .vmem S5x800x128 .f32) (h9 : M9.IsWhole)
    (f2 : Bf (F := F) c M2) (f3 : Bf (F := F) c M3) (f4 : Bf (F := F) c M4) (f7 : Bf (F := F) c M7) (f8 g8 : Bf (F := F) c M8)
    (f5 : Bf (F := F) c M5) (f6 : Bf (F := F) c M6) (f9 : Bf (F := F) c M9) :
    { W : Bf (F := F) c M5 × Bf (F := F) c M6 × Bf (F := F) c M8 × Bf (F := F) c M9 //
      ∀ (E : Set ℕ) (Q : PUnit → sProp 𝕄),
        iprop(pt c M5 f5 ∗ pt c M6 f6 ∗ pt c M8 g8 ∗ pt c M9 f9
          ∗ (iprop(pt c M5 W.1 ∗ pt c M6 W.2.1 ∗ pt c M8 W.2.2.1 ∗ pt c M9 W.2.2.2) -∗ Q ⟨⟩))
        ⊢ wp frame (wpE (defs₀ (F := F)) Variants.none c none) E
            (resizeRun c i M2 h2 M3 h3 M4 h4 M5 h5 M6 h6 M7 h7 M8 h8 M9 h9 f2 f3 f4 f7 f8).1.2.2 Q } := by
  refine ⟨⟨?_, ?_, ?_, ?_⟩, fun E Q => ?run⟩
  case run =>
    dsimp only [resizeRun]
    iintro ⟨H5, H6, H8, H9, Hk⟩
    sl_exec_parts! (disch := exact hi)
    sl_step
    iapply Hk
    isplitl [H5]; · iexact H5
    isplitl [H6]; · iexact H6
    isplitl [H8]; · iexact H8
    iexact H9

end Cert.KernelIdeal.Gen

end
-- ==== Proof.KernelIdeal.Track.lean ====
/-
  The kernel's pipeline run from relational proof data: what is tracked of the carried scratch `v` between points and
  of the two results' blocks after a point is a parameter (`Track`), which one obligation per point (`Track.Step`)
  relates to the two runs of the body (`resizeRun`, `epilogueRun`).
-/
module

public import proofs.«01_k».proof.Proof.KernelIdeal.Epilogue
public import Idealize.ShloMosaic.Lib.Pipeline.Frame
public import Idealize.ShloMosaic.Lib.Pipeline.FrameBody

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The operands the body is handed -/

/-- The windows' staging memrefs at a point, as the pipeline passes them. -/
abbrev ms0 (t : Fin cfg0.N) : Memref sig .tc .vmem S1x1x2048x1536 .i8 := win0_0.stage (cfg0.slots t 0)
abbrev ms1 (t : Fin cfg0.N) : Memref sig .tc .vmem S24x80x256 .bf16 := win0_1.stage (cfg0.slots t 1)
abbrev ms2 (t : Fin cfg0.N) : Memref sig .tc .vmem S2x1024x256 .bf16 := win0_2.stage (cfg0.slots t 2)
abbrev ms3 (t : Fin cfg0.N) : Memref sig .tc .vmem S1x784x588 .fp8e4m3 := win0_3.stage (cfg0.slots t 3)
abbrev ms4 (t : Fin cfg0.N) : Memref sig .tc .vmem S1x1x784 .f32 := win0_4.stage (cfg0.slots t 4)
theorem hs0 (t : Fin cfg0.N) : (ms0 t).IsWhole := hstage0_0 ((cfg0.slots t 0).cast nbuf0_0)
theorem hs1 (t : Fin cfg0.N) : (ms1 t).IsWhole := hstage0_1 ((cfg0.slots t 1).cast nbuf0_1)
theorem hs2 (t : Fin cfg0.N) : (ms2 t).IsWhole := hstage0_2 ((cfg0.slots t 2).cast nbuf0_2)
theorem hs3 (t : Fin cfg0.N) : (ms3 t).IsWhole := hstage0_3 ((cfg0.slots t 3).cast nbuf0_3)
theorem hs4 (t : Fin cfg0.N) : (ms4 t).IsWhole := hstage0_4 ((cfg0.slots t 4).cast nbuf0_4)
/-- The three scratch buffers, whole: the width pass's result, the normalised image, the code words. -/
abbrev sc0 : Memref sig .tc .vmem S4x1600x128 .f32 := Memref.whole cc0_scratch0
abbrev sc1 : Memref sig .tc .vmem S3x4x448x128 .f32 := Memref.whole cc0_scratch1
abbrev sc2 : Memref sig .tc .vmem S5x800x128 .f32 := Memref.whole cc0_scratch2

/-- The body's first half at point `t`. -/
abbrev resizeAt (c : Dev nD) (t : Fin cfg0.N) (f2 : Bf (F := F) c (ms0 t)) (f3 : Bf (F := F) c (ms1 t)) (f4 : Bf (F := F) c (ms2 t))
    (f7 : Bf (F := F) c sc0) (f8 : Bf (F := F) c sc1) :=
  resizeRun c (grid0.coords t) (ms0 t) (hs0 t) (ms1 t) (hs1 t) (ms2 t) (hs2 t) (ms3 t) (hs3 t) (ms4 t) (hs4 t)
    sc0 (Memref.isWhole_whole _) sc1 (Memref.isWhole_whole _) sc2 (Memref.isWhole_whole _) f2 f3 f4 f7 f8

/-- The body's second half at point `t`, from the contents `g8` of the scratch `v`. -/
abbrev epilogueAt (c : Dev nD) (t : Fin cfg0.N) (hi : k0_cond1 (grid0.coords t) = 1#1) (f2 : Bf (F := F) c (ms0 t)) (f3 : Bf (F := F) c (ms1 t))
    (f4 : Bf (F := F) c (ms2 t)) (f7 : Bf (F := F) c sc0) (f8 g8 : Bf (F := F) c sc1)
    (f5 : Bf (F := F) c (ms3 t)) (f6 : Bf (F := F) c (ms4 t)) (f9 : Bf (F := F) c sc2) :=
  epilogueRun c (grid0.coords t) hi (ms0 t) (hs0 t) (ms1 t) (hs1 t) (ms2 t) (hs2 t) (ms3 t) (hs3 t) (ms4 t) (hs4 t)
    sc0 (Memref.isWhole_whole _) sc1 (Memref.isWhole_whole _) sc2 (Memref.isWhole_whole _) f2 f3 f4 f7 f8 g8 f5 f6 f9

/-- Off a batch's last channel the second half does nothing. -/
theorem resizeRun_rest (c : Dev nD) (t : Fin cfg0.N) (hi : k0_cond1 (grid0.coords t) ≠ 1#1) (f2 f3 f4 f7 f8) :
    (resizeAt (F := F) c t f2 f3 f4 f7 f8).1.2.2 = pure ⟨⟩ := by
  dsimp only [resizeRun]
  exact dif_neg hi

/-! ## What is tracked -/

/-- What the proof data track: of the scratch `v` before the `n`-th point, and of the two results' blocks after a point. -/
structure Track where
  v : Dev nD → ℕ → Bf (F := F) (0 : Dev nD) sc1 → Prop
  codes : Dev nD → Fin cfg0.N → (S1x784x588.Idx → Elt F .fp8e4m3) → Prop
  scales : Dev nD → Fin cfg0.N → (S1x1x784.Idx → Elt F .f32) → Prop

/-- One point keeps what is tracked. -/
structure Track.Step (T : Track (F := F)) : Prop where
  start (c : Dev nD) (f8) : T.v c 0 f8
  mid (c : Dev nD) (t : Fin cfg0.N) (hi : k0_cond1 (grid0.coords t) ≠ 1#1) (f2 f3 f4 f7 f8)
      (h2 : (ms0 t).view.read (Elt F) f2 = iblk m c 0 t) (h3 : (ms1 t).view.read (Elt F) f3 = iblk m c 1 t)
      (h4 : (ms2 t).view.read (Elt F) f4 = iblk m c 2 t) (hv : T.v c t.val f8) :
      T.v c (t.val + 1) (resizeAt c t f2 f3 f4 f7 f8).1.2.1 ∧ (∀ X, T.codes c t X) ∧ (∀ X, T.scales c t X)
  last (c : Dev nD) (t : Fin cfg0.N) (hi : k0_cond1 (grid0.coords t) = 1#1) (f2 f3 f4 f7 f8 f5 f6 f9)
      (h2 : (ms0 t).view.read (Elt F) f2 = iblk m c 0 t) (h3 : (ms1 t).view.read (Elt F) f3 = iblk m c 1 t)
      (h4 : (ms2 t).view.read (Elt F) f4 = iblk m c 2 t) (hv : T.v c t.val f8) :
      T.v c (t.val + 1) (epilogueAt c t hi f2 f3 f4 f7 f8 (resizeAt c t f2 f3 f4 f7 f8).1.2.1 f5 f6 f9).1.2.2.1
      ∧ T.codes c t ((ms3 t).view.read (Elt F) (epilogueAt c t hi f2 f3 f4 f7 f8 (resizeAt c t f2 f3 f4 f7 f8).1.2.1 f5 f6 f9).1.1)
      ∧ T.scales c t ((ms4 t).view.read (Elt F) (epilogueAt c t hi f2 f3 f4 f7 f8 (resizeAt c t f2 f3 f4 f7 f8).1.2.1 f5 f6 f9).1.2.1)

variable (T : Track (F := F))

/-- The invariant before the `n`-th point: the scratch buffers at something, `v` at something tracked, and the generator
    register at some state. -/
def inv (c : Dev nD) (n : ℕ) : sProp 𝕄 :=
  iprop((∃ f, pt c sc0 f) ∗ (∃ f, ⌜T.v c n f⌝ ∗ pt c sc1 f) ∗ (∃ f, pt c sc2 f) ∗ ∃ r, prngReg c r)

/-- The relation a point's body leaves each staging buffer in: the inputs as found, the results as tracked. -/
def left (c : Dev nD) (t : Fin cfg0.N) : (w : Fin cfg0.W) → (Y X : (cfg0.win w).block.Idx → Elt F (cfg0.win w).elt) → Prop
  | ⟨0, _⟩, Y, X => X = Y
  | ⟨1, _⟩, Y, X => X = Y
  | ⟨2, _⟩, Y, X => X = Y
  | ⟨3, _⟩, _, X => T.codes c t X
  | ⟨4, _⟩, _, X => T.scales c t X

/-- The proof data on core `c`. -/
def rdat (c : Dev nD) : RDat τ (Elt F) Unit ℕ (UR sig nD τ) ℕ cfg0 c where
  A w := V m c (Pipeline.arrRef spec0 w)
  after w t Y X := left T c t w Y X
  Φ n := inv T c n.val
  q _ := fullShare
  owed _ := 0

theorem finds_0 (c : Dev nD) (t : Fin cfg0.N) (Y) (h : (rdat m T c).Finds 0 t Y) : Y = iblk m c 0 t := by
  obtain ⟨d, rfl⟩ := (rdat m T c).finds_in_eq_fetched 0 rfl (fun _ _ _ => rfl) (fun _ _ _ h => h) t Y h
  unfold RDat.fetched RDat.blockOf iblk; rfl
theorem finds_1 (c : Dev nD) (t : Fin cfg0.N) (Y) (h : (rdat m T c).Finds 1 t Y) : Y = iblk m c 1 t := by
  obtain ⟨d, rfl⟩ := (rdat m T c).finds_in_eq_fetched 1 rfl (fun _ _ _ => rfl) (fun _ _ _ h => h) t Y h
  unfold RDat.fetched RDat.blockOf iblk; rfl
theorem finds_2 (c : Dev nD) (t : Fin cfg0.N) (Y) (h : (rdat m T c).Finds 2 t Y) : Y = iblk m c 2 t := by
  obtain ⟨d, rfl⟩ := (rdat m T c).finds_in_eq_fetched 2 rfl (fun _ _ _ => rfl) (fun _ _ _ h => h) t Y h
  unfold RDat.fetched RDat.blockOf iblk; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

omit [FloatOps F] [Named F] [∀ e, Nonempty (Elt F e)] in
/-- Owning a whole memref at `Y` is holding its buffer at contents that read `Y`. -/
theorem owns_isWhole (c : Dev nD) {sp : Space} {S : Shape} {e : EltTy} {M : Memref sig .tc sp S e} (h : M.IsWhole) (Y : S.Idx → Elt F e) :
    (owns (c : Thread nD τ) M fullShare Y : sProp 𝕄) = iprop(∃ f : Bf (F := F) c M, ⌜M.view.read (Elt F) f = Y⌝ ∗ pt c M f) := by
  unfold owns; rw [h.set_eq_univ]

/-- The invariant and the five staging buffers at given contents, the body's two halves run, everything handed back. -/
theorem body_at (hT : T.Step m) (c : Dev nD) (t : Fin cfg0.N) (Y0 Y1 Y2 Y3 Y4)
    (e0 : Y0 = iblk m c 0 t) (e1 : Y1 = iblk m c 1 t) (e2 : Y2 = iblk m c 2 t) (O : sProp 𝕄) :
    iprop(inv T c t.val ∗ O
        ∗ owns (c : Thread nD τ) (ms0 t) fullShare Y0 ∗ owns (c : Thread nD τ) (ms1 t) fullShare Y1
        ∗ owns (c : Thread nD τ) (ms2 t) fullShare Y2 ∗ owns (c : Thread nD τ) (ms3 t) fullShare Y3
        ∗ owns (c : Thread nD τ) (ms4 t) fullShare Y4)
      ⊢ wp frame (wpE (defs₀ (F := F)) Variants.none c none) Set.univ (bodyAt0 t) fun _ =>
        iprop(inv T c (t.val + 1) ∗ O
          ∗ (∃ X, ⌜X = Y0⌝ ∗ owns (c : Thread nD τ) (ms0 t) fullShare X)
          ∗ (∃ X, ⌜X = Y1⌝ ∗ owns (c : Thread nD τ) (ms1 t) fullShare X)
          ∗ (∃ X, ⌜X = Y2⌝ ∗ owns (c : Thread nD τ) (ms2 t) fullShare X)
          ∗ (∃ X, ⌜T.codes c t X⌝ ∗ owns (c : Thread nD τ) (ms3 t) fullShare X)
          ∗ (∃ X, ⌜T.scales c t X⌝ ∗ owns (c : Thread nD τ) (ms4 t) fullShare X)) := by
  simp only [owns_isWhole c (hs0 t), owns_isWhole c (hs1 t), owns_isWhole c (hs2 t), owns_isWhole c (hs3 t), owns_isWhole c (hs4 t)]
  unfold inv bodyAt0
  iintro ⟨⟨⟨%f7, H7⟩, ⟨%f8, %hv, H8⟩, ⟨%f9, H9⟩, Hg⟩, HO, ⟨%f2, %h2, H2⟩, ⟨%f3, %h3, H3⟩, ⟨%f4, %h4, H4⟩,
    ⟨%f5, %h5, H5⟩, ⟨%f6, %h6, H6⟩⟩
  iapply ((resizeAt c t f2 f3 f4 f7 f8).2 Set.univ _)
  isplitl [H2]; · iexact H2
  isplitl [H3]; · iexact H3
  isplitl [H4]; · iexact H4
  isplitl [H7]; · iexact H7
  isplitl [H8]; · iexact H8
  iintro ⟨H2, H3, H4, H7, H8⟩
  by_cases hi : k0_cond1 (grid0.coords t) = 1#1
  · obtain ⟨r8, r3, r4⟩ := hT.last c t hi f2 f3 f4 f7 f8 f5 f6 f9 (h2.trans e0) (h3.trans e1) (h4.trans e2) hv
    generalize epilogueAt c t hi f2 f3 f4 f7 f8 (resizeAt c t f2 f3 f4 f7 f8).1.2.1 f5 f6 f9 = W at r8 r3 r4
    iapply (W.2 Set.univ _)
    isplitl [H5]; · iexact H5
    isplitl [H6]; · iexact H6
    isplitl [H8]; · iexact H8
    isplitl [H9]; · iexact H9
    iintro ⟨H5, H6, H8, H9⟩
    isplitl [H7 H8 H9 Hg]
    · isplitl [H7]; · iexists _; iexact H7
      isplitl [H8]
      · iexists _; isplitr; swap; · iexact H8
        ipureintro; exact r8
      isplitl [H9]; · iexists _; iexact H9
      iexact Hg
    isplitl [HO]; · iexact HO
    isplitl [H2]
    · iexists Y0; isplitr; · ipureintro; rfl
      iexists f2; isplitr; · ipureintro; exact h2
      iexact H2
    isplitl [H3]
    · iexists Y1; isplitr; · ipureintro; rfl
      iexists f3; isplitr; · ipureintro; exact h3
      iexact H3
    isplitl [H4]
    · iexists Y2; isplitr; · ipureintro; rfl
      iexists f4; isplitr; · ipureintro; exact h4
      iexact H4
    isplitl [H5]
    · iexists _; isplitr; · ipureintro; exact r3
      iexists _; isplitr; swap; · iexact H5
      ipureintro; rfl
    iexists _; isplitr; · ipureintro; exact r4
    iexists _; isplitr; swap; · iexact H6
    ipureintro; rfl
  · obtain ⟨r8, r3, r4⟩ := hT.mid c t hi f2 f3 f4 f7 f8 (h2.trans e0) (h3.trans e1) (h4.trans e2) hv
    rw [resizeRun_rest c t hi]
    sl_step
    isplitl [H7 H8 H9 Hg]
    · isplitl [H7]; · iexists _; iexact H7
      isplitl [H8]
      · iexists _; isplitr; swap; · iexact H8
        ipureintro; exact r8
      isplitl [H9]; · iexists _; iexact H9
      iexact Hg
    isplitl [HO]; · iexact HO
    isplitl [H2]
    · iexists Y0; isplitr; · ipureintro; rfl
      iexists f2; isplitr; · ipureintro; exact h2
      iexact H2
    isplitl [H3]
    · iexists Y1; isplitr; · ipureintro; rfl
      iexists f3; isplitr; · ipureintro; exact h3
      iexact H3
    isplitl [H4]
    · iexists Y2; isplitr; · ipureintro; rfl
      iexists f4; isplitr; · ipureintro; exact h4
      iexact H4
    isplitl [H5]
    · iexists Y3; isplitr; · ipureintro; exact r3 _
      iexists f5; isplitr; · ipureintro; exact h5
      iexact H5
    iexists Y4; isplitr; · ipureintro; exact r4 _
    iexists f6; isplitr; · ipureintro; exact h6
    iexact H6

/-- The library's body obligation. -/
theorem body_obligation (hT : T.Step m) (c : Dev nD) :
    (rdat m T c).BodyObligation (defs₀ (F := F)) Variants.none () Set.univ := fun t Y hY => by
  rw [bigSep_W0, bigSep_W0, defs₀_row]
  exact triple_restated (body_at m T hT c t (Y 0) (Y 1) (Y 2) (Y 3) (Y 4) (finds_0 m T c t _ (hY 0)) (finds_1 m T c t _ (hY 1))
    (finds_2 m T c t _ (hY 2)) ((rdat m T c).owesAt () t.castSucc)) rfl .rfl fun _ => .rfl

/-! ## The launch -/

set_option backward.isDefEq.respectTransparency.types false in
/-- From any memory with zero counters every weakly fair execution of @main ends, and the final state's arrays are what
    the proof data let them be, every semaphore at zero. -/
theorem run_main (hT : T.Step m) :
    θ_run defs (onTc (τ := τ) (main (F := F))) ⟨m, fun _ => 0, ρ⟩
      (fun r => RDat.FramePost (cfgs 0) (rdat m T) (V m) r ∧ r.2.sem = fun _ => 0) :=
  RDat.θ_run_frame_track (Q' := _) cfgs (0 : Fin 1) launch0 defs₀ Variants.none (rdat m T) m ρ main
    (hbody := body_obligation m T hT) (hshare := fun c w => by unfold RDat.share; split <;> rfl)
    (howed := fun _ _ => rfl) (V := V m) (hmain := hmain m Variants.none) (hA := fun _ _ => rfl)
    (hin := fun c => by
      show _ ⊢ inv T c 0
      unfold Pipeline.ΦA inv; rw [scopedRest0_eq]
      iintro ⟨⟨H7, ⟨%f8, H8⟩, H9⟩, Hg⟩
      isplitl [H7]; · iexact H7
      isplitl [H8]
      · iexists f8; isplitr; · ipureintro; exact hT.start c f8
        iexact H8
      isplitl [H9]; · iexact H9
      iexact Hg)
    (hout := fun c => by
      show inv T c _ ⊢ _
      unfold Pipeline.ΦA inv; rw [scopedRest0_eq]
      iintro ⟨H7, ⟨%f8, -, H8⟩, H9, Hg⟩
      isplitl [H7 H8 H9]
      · isplitl [H7]; · iexact H7
        isplitl [H8]; · iexists f8; iexact H8
        iexact H9
      iexact Hg)

/-- The run leaves the argument as launched. -/
theorem arg0_kept {r : PUnit × MemSt nD τ sig (Elt F)} (h : RDat.FramePost (cfgs 0) (rdat m T) (V m) r) (c : Dev nD) :
    r.2.mem ((c.tc : Thread nD τ).loc main_arg0) = m ((c.tc : Thread nD τ).loc main_arg0) :=
  (((rdat m T c).ArrAt_in 0 rfl _) ▸ (h c).1 0).trans (V_main_arg0 m c)

/-- Nothing tracked. -/
def noTrack : Track (F := F) := ⟨fun _ _ _ => True, fun _ _ _ => True, fun _ _ _ => True⟩

theorem noTrack_step : (noTrack (F := F)).Step m :=
  ⟨fun _ _ => trivial, by intros; exact ⟨trivial, fun _ => trivial, fun _ => trivial⟩, by intros; exact ⟨trivial, trivial, trivial⟩⟩

/-- The frame claim: the run ends, the argument as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => arg0_kept m noTrack h.1 c, h.2⟩) (run_main m ρ noTrack (noTrack_step m))

end Cert.KernelIdeal.Gen

end
-- ==== Proof.Value.EpilogueModel.lean ====
/-
  The second half of the body written plainly: the largest magnitude of each patch, its exponent by binary search, the
  row of scales, the quantised slabs, their merging and spreading into rows of codes. That the run finds these values is
  definitional.
-/
module

public import proofs.«01_k».proof.Proof.KernelIdeal.Epilogue

@[expose] public section

noncomputable section

namespace Cert.KernelIdeal.Val

open Idealize.ShloMosaic Idealize.ShloMosaic.TcCoe Cert.KernelIdeal.Gen Cert.KernelIdeal

variable {F : FTy → Type} [FloatOps F] [Named F]

/-! ## The slabs -/

/-- The thirty-two rows `px`, `px + 14`, … of quarter `q` of channel `cc`. -/
def slab (c : Dev nD) (M8 : Memref sig .tc .vmem S3x4x448x128 .f32) (g : Bf (F := F) c M8) (cc q px : ℕ) : Vec F S1x1x32x128 .f32 :=
  View.readAt (Elt F) M8.view (⟨![cc % 3, q % 4, px % 14, 0], S1x1x32x128.size, ![1, 1, 14, 1], by
    intro a
    match a with
    | 0 => exact .inr (by show cc % 3 + 1 * (1 - 1) < 3; omega)
    | 1 => exact .inr (by show q % 4 + 1 * (1 - 1) < 4; omega)
    | 2 => exact .inr (by show px % 14 + 14 * (32 - 1) < 448; omega)
    | 3 => exact .inr (by show 0 + 1 * (128 - 1) < 128; omega)⟩ : LoadRect S3x4x448x128) g

variable (S : ℕ → ℕ → ℕ → Vec F S1x1x32x128 .f32)

/-- A slab as a matrix. -/
def flat (cc q px : ℕ) : FVec F S32x128 .f32 := shapeCast S32x128 (S cc q px) shapeCasts_S1x1x32x128_S32x128

/-! ## The largest magnitudes -/

/-- Magnitude `k` of the eighty-four slabs of a half. -/
def mag (half k : ℕ) : FVec F S32x128 .f32 := absf (flat S (k % 42 / 14) (2 * half + k / 42) (k % 14))

def chain (half : ℕ) : ℕ → FVec F S32x128 .f32
  | 0 => mag S half 0
  | k + 1 => maximumf (chain half k) (mag S half (k + 1))

/-- The maximum with itself rotated along the lanes. -/
def fold (r : BitVec 32) (a : FVec F S32x128 .f32) : FVec F S32x128 .f32 :=
  maximumf a (dynamicRotate 1 r none a rotates_S32x128_d1)

/-- The largest magnitude of each patch of a half. -/
def amax (half : ℕ) : FVec F S32x128 .f32 := fold 16#32 (fold 32#32 (fold 64#32 (chain S half 83)))

/-! ## The exponent -/

def const (b : BitVec 32) : IVec S32x128 32 := broadcast S32x128 b

/-- The number with exponent field `e`. -/
def power (e : IVec S32x128 32) : FVec F S32x128 .f32 := bitcastToFloat .f32 (shli e (const 23#32))

/-- One step of the search. -/
def try_ (y : FVec F S32x128 .f32) (e : IVec S32x128 32) (s : BitVec 32) : IVec S32x128 32 :=
  select (cmpf .oge y (power (addi e (const s)))) (addi e (const s)) e

def field (y : FVec F S32x128 .f32) : IVec S32x128 32 :=
  try_ y (try_ y (try_ y (try_ y (try_ y (try_ y (try_ y (try_ y (const 0#32) 128#32) 64#32) 32#32) 16#32) 8#32) 4#32) 2#32) 1#32

/-- The exponent of the scale, from the largest magnitudes. -/
def expo (a : FVec F S32x128 .f32) : IVec S32x128 32 :=
  select (cmpf .oeq a (broadcast S32x128 (Scalar.ofBits .f32 0x00000000#32))) (const 0#32)
    (subi (field (mulf a (broadcast S32x128 (Scalar.ofBits .f32 0x3B124925#32)))) (const 126#32))

def inverse (a : FVec F S32x128 .f32) : FVec F S32x128 .f32 := power (subi (const 127#32) (expo a))
def scale (a : FVec F S32x128 .f32) : FVec F S32x128 .f32 := power (addi (const 127#32) (expo a))

/-! ## The row of scales -/

/-- The slot of patch row `g` of a half. -/
def slotOf (half g : ℕ) : ℕ := if half % 2 = 0 then g % 14 else if g % 14 = 0 then 14 else g % 14 - 1

def columns (a : FVec F S32x128 .f32) : FVec F S128x128 .f32 :=
  transpose S128x128 [1, 0]
    (concatenate S128x128 0 [⟨S32x128, scale a⟩, ⟨S96x128, broadcast S96x128 (Scalar.ofBits .f32 0x00000000#32)⟩] concatenates_S32x128_S96x128_S128x128_d0)
    transposes_S128x128_p1_0_S128x128

theorem slotOf_le (half g : ℕ) : slotOf half g + 1 ≤ 128 := by
  unfold slotOf; split_ifs <;> omega

def scaleRow (a : FVec F S32x128 .f32) (half g : ℕ) : FVec F S1x28 .f32 :=
  extractStridedSlice S1x28 ![slotOf half g, 0] (columns a) ⟨rfl, Fin.forall_fin_two.2 ⟨slotOf_le half g, by show 0 + 28 ≤ 128; omega⟩⟩

def scales (A : ℕ → FVec F S32x128 .f32) (h : Shape.Concatenates ((List.ofFn fun n : Fin 28 =>
      (⟨S1x28, scaleRow (A (n.val / 14)) (n.val / 14) (n.val % 14)⟩ : (s : Shape) × (s.Idx → F .f32))).map (·.1)) S1x784 1) : FVec F S1x1x784 .f32 :=
  shapeCast S1x1x784
    (concatenate S1x784 1 (List.ofFn fun n : Fin 28 => (⟨S1x28, scaleRow (A (n.val / 14)) (n.val / 14) (n.val % 14)⟩ : (s : Shape) × (s.Idx → F .f32))) h)
    shapeCasts_S1x784_S1x1x784

/-! ## The codes -/

def lane32 : IVec S32x128 32 := iota .tc S32x128 32 [1] iota_S32x128_d1_w32
def residue : IVec S32x128 32 := andi lane32 (const 15#32)

/-- A slab quantised. -/
def quant (v inv : FVec F S32x128 .f32) : FVec F S32x128 .f32 :=
  extf .f32 (truncf .fp8e4m3
    (minimumf (broadcast S32x128 (Scalar.ofBits .f32 0x43E00000#32)) (maximumf (broadcast S32x128 (Scalar.ofBits .f32 0xC3E00000#32)) (mulf v inv)))
    bitsLt_fp8e4m3_f32) bitsLt_fp8e4m3_f32

variable (I : ℕ → FVec F S32x128 .f32)

/-- The quantised slab `px` of quarter `2 half + v`, rotated by `px` lanes. -/
def packed (cc half v : ℕ) : ℕ → FVec F S32x128 .f32
  | 0 => quant (flat S cc (2 * half + v) 0) (I half)
  | px + 1 => dynamicRotate 1 (BitVec.ofNat 32 (px + 1)) none (quant (flat S cc (2 * half + v) (px + 1)) (I half)) rotates_S32x128_d1

/-- The slabs merged for the patch row in `slot`. -/
def merged (P : ℕ → FVec F S32x128 .f32) (slot : ℕ) : ℕ → FVec F S32x128 .f32
  | 0 => P 0
  | px + 1 => select (cmpi .eq residue (const (BitVec.ofNat 32 ((slot + (px + 1)) % 16)))) (P (px + 1)) (merged P slot px)

/-- The column of a lane within its channel, clipped. -/
def column (shift : BitVec 32) : IVec S32x128 32 :=
  minsi (const 195#32) (maxsi (const 0#32) (addi lane32 (const shift)))

/-- Whether the column is of the second quarter. -/
def second (shift : BitVec 32) : IVec S32x128 32 := extui 32 (cmpi .sge (column shift) (const 98#32)) natLt_1_32

def within (shift : BitVec 32) : IVec S32x128 32 := subi (column shift) (muli (second shift) (const 98#32))

def rowIn (shift : BitVec 32) : IVec S32x128 32 := shrsi (muli (within shift) (const 1171#32)) (const 14#32)

/-- The lane that a column is taken from. -/
def source (shift : BitVec 32) (slot : ℕ) : IVec S32x128 32 :=
  andi (addi (addi (muli (const 16#32) (rowIn shift)) (subi (within shift) (muli (const 14#32) (rowIn shift)))) (const (BitVec.ofNat 32 slot))) (const 127#32)

def take (m : FVec F S32x128 .f32) (i : IVec S32x128 32) : FVec F S32x128 .f32 :=
  dynamicGather 1 m
    (shapeCast S32x128 (shapeCast S32x128x1 (select (cmpi .slt i (const 0#32)) (addi i (const 128#32)) i) shapeCasts_S32x128_S32x128x1)
      shapeCasts_S32x128x1_S32x128)

def words (m₀ m₁ : FVec F S32x128 .f32) (shift : BitVec 32) (slot : ℕ) : FVec F S32x128 .f32 :=
  select (cmpi .eq (second shift) (const 1#32)) (take m₁ (source shift slot)) (take m₀ (source shift slot))

/-- The words of patch row `k` of channel `cc`. -/
def wordsOf (cc k : ℕ) (shift : BitVec 32) : FVec F S32x128 .f32 :=
  words (merged (packed S I cc (k / 14) 0) (slotOf (k / 14) (k % 14)) 13) (merged (packed S I cc (k / 14) 1) (slotOf (k / 14) (k % 14)) 13)
    shift (slotOf (k / 14) (k % 14))

/-- The store of the lanes `lo`, …, `lo + w - 1` of block `n`. -/
def wordPiece (cc n lo w : ℕ) (shift : BitVec 32) (hn : n < 5) (hw : lo + w ≤ 128) (k : ℕ) : View.Piece (Elt F) S5x800x128 .f32 :=
  ⟨Rect.unit (s := S5x800x128) ![n, 28 * (k % 28), lo] ![1, 28, w] (by
    intro a
    match a with
    | 0 => show n + 1 ≤ 5; omega
    | 1 => show 28 * (k % 28) + 28 ≤ 800; omega
    | 2 => exact hw),
   shapeCast ⟨3, ![1, 28, w]⟩
     (extractStridedSlice ⟨2, ![28, w]⟩ ![0, lo] (wordsOf S I cc k shift) ⟨rfl, Fin.forall_fin_two.2 ⟨by show 0 + 28 ≤ 32; omega, hw⟩⟩)
     (by simp [Shape.ShapeCasts, Shape.numel, Fin.prod_univ_succ])⟩

/-- The stores of the first `k` patch rows of channel 0, 1, 2, after those of the channels before; the last first. -/
def pieces0 : ℕ → List (View.Piece (Elt F) S5x800x128 .f32)
  | 0 => []
  | k + 1 => wordPiece S I 0 1 0 68 128#32 (by decide) (by decide) k :: wordPiece S I 0 0 0 128 0#32 (by decide) (by decide) k :: pieces0 k
def pieces1 : ℕ → List (View.Piece (Elt F) S5x800x128 .f32)
  | 0 => pieces0 S I 28
  | k + 1 => wordPiece S I 1 3 0 8 188#32 (by decide) (by decide) k :: wordPiece S I 1 2 0 128 60#32 (by decide) (by decide) k
      :: wordPiece S I 1 1 68 60 4294967228#32 (by decide) (by decide) k :: pieces1 k
def pieces2 : ℕ → List (View.Piece (Elt F) S5x800x128 .f32)
  | 0 => pieces1 S I 28
  | k + 1 => wordPiece S I 2 4 0 76 120#32 (by decide) (by decide) k :: wordPiece S I 2 3 8 120 4294967288#32 (by decide) (by decide) k :: pieces2 k

end Cert.KernelIdeal.Val

end
-- ==== Proof.Value.Weights.lean ====
/-
  The weights of the resize as real numbers: output `o` of `n` inputs weighs input `j` by the triangle filter of width
  `n / 392` around the output's centre, normalised. Where the weight vanishes, and its denominator.
-/
module

public import Mathlib.Analysis.SpecialFunctions.Log.Basic
public import Mathlib.Algebra.BigOperators.Field

@[expose] public section

noncomputable section

namespace Cert.Val

/-- The filter, not normalised. -/
def tri (n o j : ℕ) : ℝ := max 0 (1 - |((j : ℝ) + 1 / 2) - ((o : ℝ) + 1 / 2) * ((n : ℝ) / 392)| / ((n : ℝ) / 392))

/-- The filter's sum. -/
def triSum (n o : ℕ) : ℝ := ∑ j ∈ Finset.range n, tri n o j

/-- The weight; rows past the last output hold zeros. -/
def wt (n o j : ℕ) : ℝ := if o < 392 then tri n o j / triSum n o else 0

theorem tri_nonneg (n o j : ℕ) : 0 ≤ tri n o j := le_max_left _ _

/-- The filter as an integer over `2 n`. -/
theorem tri_eq (n o j : ℕ) (hn : 0 < n) :
    tri n o j = ((max 0 (2 * (n : ℤ) - |(2 * (j : ℤ) + 1) * 392 - (2 * (o : ℤ) + 1) * n|) : ℤ) : ℝ) / (2 * n) := by
  have hn' : (0 : ℝ) < n := by exact_mod_cast hn
  have e : ((j : ℝ) + 1 / 2) - ((o : ℝ) + 1 / 2) * ((n : ℝ) / 392) = (((2 * (j : ℤ) + 1) * 392 - (2 * (o : ℤ) + 1) * n : ℤ) : ℝ) / 784 := by
    push_cast; ring
  unfold tri
  rw [e, abs_div, abs_of_pos (by norm_num : (0 : ℝ) < 784)]
  push_cast
  rw [← max_div_div_right (by positivity : (0 : ℝ) ≤ 2 * n) 0, zero_div]
  congr 1
  field_simp
  ring

theorem tri_eq_zero (n o j : ℕ) (hn : 0 < n)
    (h : (2 * j + 1) * 392 + 2 * n ≤ (2 * o + 1) * n ∨ (2 * o + 1) * n + 2 * n ≤ (2 * j + 1) * 392) : tri n o j = 0 := by
  rw [tri_eq n o j hn, max_eq_left, Int.cast_zero, zero_div]
  rcases h with h | h
  · have : (((2 * j + 1) * 392 + 2 * n : ℕ) : ℤ) ≤ ((2 * o + 1) * n : ℕ) := by exact_mod_cast h
    push_cast at this
    have := neg_le_abs ((2 * (j : ℤ) + 1) * 392 - (2 * o + 1) * n)
    linarith
  · have : (((2 * o + 1) * n + 2 * n : ℕ) : ℤ) ≤ ((2 * j + 1) * 392 : ℕ) := by exact_mod_cast h
    push_cast at this
    have := le_abs_self ((2 * (j : ℤ) + 1) * 392 - (2 * o + 1) * n)
    linarith

theorem wt_eq_zero (n o j : ℕ) (hn : 0 < n)
    (h : (2 * j + 1) * 392 + 2 * n ≤ (2 * o + 1) * n ∨ (2 * o + 1) * n + 2 * n ≤ (2 * j + 1) * 392) : wt n o j = 0 := by
  unfold wt
  rw [tri_eq_zero n o j hn h, zero_div, ite_self]

/-- The filter's numerator. -/
def triNum (n o j : ℕ) : ℕ := (max 0 (2 * (n : ℤ) - |(2 * (j : ℤ) + 1) * 392 - (2 * (o : ℤ) + 1) * n|)).toNat

theorem tri_eq_num (n o j : ℕ) (hn : 0 < n) : tri n o j = (triNum n o j : ℝ) / (2 * n) := by
  rw [tri_eq n o j hn]
  unfold triNum
  congr 1
  have h := Int.toNat_of_nonneg (le_max_left 0 (2 * (n : ℤ) - |(2 * (j : ℤ) + 1) * 392 - (2 * (o : ℤ) + 1) * n|))
  exact_mod_cast h.symm

/-- The sum of the numerators. -/
def numSum (n o : ℕ) : ℕ := ∑ j ∈ Finset.range n, triNum n o j

theorem triSum_eq (n o : ℕ) (hn : 0 < n) : triSum n o = (numSum n o : ℝ) / (2 * n) := by
  unfold triSum numSum
  rw [Finset.sum_congr rfl fun j _ => tri_eq_num n o j hn, ← Finset.sum_div]
  push_cast
  rfl

theorem triNum_le (n o j : ℕ) : triNum n o j ≤ 2 * n := by
  unfold triNum
  have := abs_nonneg ((2 * (j : ℤ) + 1) * 392 - (2 * o + 1) * n)
  omega

theorem numSum_le (n o : ℕ) : numSum n o ≤ 2 * n * n := by
  unfold numSum
  refine (Finset.sum_le_sum fun j _ => triNum_le n o j).trans ?_
  rw [Finset.sum_const, Finset.card_range, smul_eq_mul, mul_comm]

theorem numSum_pos (n o : ℕ) (hn : 392 ≤ n) (ho : o < 392) : 0 < numSum n o := by
  unfold numSum
  have hj : (2 * o + 1) * n / 784 < n := by
    rw [Nat.div_lt_iff_lt_mul (by decide)]
    nlinarith
  refine Finset.sum_pos' (fun _ _ => Nat.zero_le _) ⟨(2 * o + 1) * n / 784, Finset.mem_range.2 hj, ?_⟩
  unfold triNum
  generalize hm : (2 * o + 1) * n = m at *
  have h1 := Nat.div_add_mod m 784
  have h2 := Nat.mod_lt m (by decide : 784 > 0)
  generalize m / 784 = d at *
  generalize m % 784 = r at *
  have hm' : (2 * (o : ℤ) + 1) * n = m := by exact_mod_cast hm
  rw [hm']
  have : |(2 * (d : ℤ) + 1) * 392 - m| ≤ 392 := by rw [abs_le]; omega
  omega

theorem triSum_pos (n o : ℕ) (hn : 392 ≤ n) (ho : o < 392) : 0 < triSum n o := by
  rw [triSum_eq n o (by omega)]
  have := numSum_pos n o hn ho
  have : 0 < n := by omega
  positivity

theorem wt_eq_num (n o j : ℕ) (hn : 392 ≤ n) (ho : o < 392) : wt n o j = (triNum n o j : ℝ) / numSum n o := by
  unfold wt
  have h : (0 : ℝ) < n := by exact_mod_cast (by omega : 0 < n)
  have h2 : (0 : ℝ) < numSum n o := by exact_mod_cast numSum_pos n o hn ho
  rw [if_pos ho, tri_eq_num n o j (by omega), triSum_eq n o (by omega)]
  field_simp

theorem wt_nonneg (n o j : ℕ) : 0 ≤ wt n o j := by
  unfold wt
  split_ifs
  · exact div_nonneg (tri_nonneg _ _ _) (Finset.sum_nonneg fun _ _ => tri_nonneg _ _ _)
  · exact le_rfl

theorem wt_sum (n o : ℕ) (hn : 392 ≤ n) (ho : o < 392) : ∑ j ∈ Finset.range n, wt n o j = 1 := by
  unfold wt
  simp only [if_pos ho]
  rw [← Finset.sum_div]
  exact div_self (triSum_pos n o hn ho).ne'

end Cert.Val

end
-- ==== Proof.Value.Filter.lean ====
/-
  The triangle filter and its normalisation as the arithmetic of the programs writes them, at the reals.
-/
module

public import proofs.«01_k».proof.Proof.Value.Weights
public import Idealize.ShloMosaic.Lib.Pointwise

@[expose] public section

noncomputable section

namespace Cert.Val

open Idealize.ShloMosaic

/-- The ratio of the width. -/
theorem ratio_width : Ideal.div (Ideal.ofBits .f32 0x44C00000#32) (Ideal.ofBits .f32 0x43C40000#32) = ((((1536 : ℕ) : ℝ) / 392 : ℝ) : EReal) := by
  have e : Ideal.ofBits .f32 0x43C40000#32 = ((392 : ℝ) : EReal) := by simp [Ideal.ofBits, Ideal.ieee, -EReal.coe_mul]; norm_num
  have e' : Ideal.ofBits .f32 0x44C00000#32 = ((1536 : ℝ) : EReal) := by simp [Ideal.ofBits, Ideal.ieee, -EReal.coe_mul]; norm_num
  rw [e, e', Ideal.div_coe (by norm_num), ← EReal.coe_mul]
  congr 1
  norm_num

/-- The ratio of the height. -/
theorem ratio_height : Ideal.div (Ideal.ofBits .f32 0x45000000#32) (Ideal.ofBits .f32 0x43C40000#32) = ((((2048 : ℕ) : ℝ) / 392 : ℝ) : EReal) := by
  have e : Ideal.ofBits .f32 0x43C40000#32 = ((392 : ℝ) : EReal) := by simp [Ideal.ofBits, Ideal.ieee, -EReal.coe_mul]; norm_num
  have e' : Ideal.ofBits .f32 0x45000000#32 = ((2048 : ℝ) : EReal) := by simp [Ideal.ofBits, Ideal.ieee, -EReal.coe_mul]; norm_num
  rw [e, e', Ideal.div_coe (by norm_num), ← EReal.coe_mul]
  congr 1
  norm_num

theorem ofBits_half : Ideal.ofBits .f32 0x3F000000#32 = (((1 : ℝ) / 2 : ℝ) : EReal) := by
  simp [Ideal.ofBits, Ideal.ieee, -EReal.coe_mul]; norm_num

theorem sitofp_nat (φ : FTy) (n : ℕ) (hn : n < 2 ^ 31) : (FloatOps.sitofp φ (BitVec.ofNat 32 n) : Ideal φ) = ((n : ℝ) : EReal) := by
  show ((((BitVec.ofNat 32 n).toInt : ℤ) : ℝ) : EReal) = _
  have : (BitVec.ofNat 32 n).toInt = (n : ℤ) := by
    rw [BitVec.toInt_eq_toNat_of_lt] <;> rw [BitVec.toNat_ofNat, Nat.mod_eq_of_lt (by omega)]
    omega
  rw [this, Int.cast_natCast]

theorem coe_max (a b : ℝ) : max (a : EReal) (b : EReal) = ((max a b : ℝ) : EReal) :=
  (Monotone.map_max (fun _ _ h => EReal.coe_le_coe_iff.2 h)).symm

theorem absf_coe (φ : FTy) (x : ℝ) : (FloatOps.absf ((x : EReal) : Ideal φ) : Ideal φ) = ((|x| : ℝ) : EReal) := by
  show max (x : EReal) (-(x : EReal)) = _
  rw [← EReal.coe_neg, coe_max]
  rfl

theorem filter_scalar (n o j : ℕ) (hn : 0 < n) (ho : o < 2 ^ 31) (hj : j < 2 ^ 31) (s t : EReal) (hs : s = (((n : ℝ) / 392 : ℝ) : EReal)) (ht : t = s) :
    max 0 (1 - Ideal.div (FloatOps.absf (F := Ideal) (φ := .f32) ((FloatOps.sitofp .f32 (BitVec.ofNat 32 j) : Ideal .f32) + Ideal.ofBits .f32 0x3F000000#32
      - ((FloatOps.sitofp .f32 (BitVec.ofNat 32 o) : Ideal .f32) + Ideal.ofBits .f32 0x3F000000#32) * s)) t) = ((tri n o j : ℝ) : EReal) := by
  have hn' : (0 : ℝ) < n := by exact_mod_cast hn
  rw [ht, hs, sitofp_nat _ _ ho, sitofp_nat _ _ hj, ofBits_half, ← EReal.coe_add, ← EReal.coe_add, ← EReal.coe_mul,
    ← EReal.coe_sub, absf_coe, Ideal.div_coe (by positivity), ← EReal.coe_mul]
  rw [show (1 : EReal) = ((1 : ℝ) : EReal) by rfl, ← EReal.coe_sub, show (0 : EReal) = ((0 : ℝ) : EReal) by rfl, coe_max]
  unfold tri
  rw [mul_one_div]

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of the filter by its sum is the weight. -/
theorem weight_scalar (n o j : ℕ) (hn : 392 ≤ n) (ho : o < 392) :
    Ideal.div ((tri n o j : ℝ) : EReal) (∑ x : Fin n, ((tri n o x.val : ℝ) : EReal)) = ((wt n o j : ℝ) : EReal) := by
  rw [coe_sum, Fin.sum_univ_eq_sum_range (fun x => tri n o x) n]
  show Ideal.div _ ((triSum n o : ℝ) : EReal) = _
  rw [Ideal.div_coe (triSum_pos n o hn ho).ne', ← EReal.coe_mul]
  unfold wt
  rw [if_pos ho, mul_one_div]

end Cert.Val

end
-- ==== Proof.Value.Exponent.lean ====
/-
  The binary search for the exponent field of a number, at the reals.
-/
module

public import proofs.«01_k».proof.Proof.Value.EpilogueModel
public import proofs.«01_k».proof.Proof.Value.Filter
public import Idealize.ShloMosaic.Lib.Pointwise

@[expose] public section

noncomputable section

namespace Cert.KernelIdeal.Val

open Idealize.ShloMosaic Idealize.ShloMosaic.TcCoe Cert.KernelIdeal.Gen Cert.KernelIdeal Cert.Val

/-- What the bits with exponent field `t` and nothing else denote. -/
def pow (t : ℕ) : EReal := if t = 255 then ⊤ else if t = 0 then 0 else (((2 : ℝ) ^ ((t : ℤ) - 127) : ℝ) : EReal)

theorem ofBits_field (t : ℕ) (ht : t < 256) : Ideal.ofBits .f32 (BitVec.ofNat 32 t <<< (23 : ℕ)) = pow t := by
  have hb : BitVec.ofNat 32 t <<< (23 : ℕ) = BitVec.ofNat 32 (t * 2 ^ 23) := by
    apply BitVec.eq_of_toNat_eq
    rw [BitVec.toNat_shiftLeft, BitVec.toNat_ofNat, BitVec.toNat_ofNat, Nat.shiftLeft_eq]
    omega
  rw [hb]
  show Ideal.ieee 8 23 (BitVec.ofNat 32 (t * 2 ^ 23)) = pow t
  have h1 : (BitVec.ofNat 32 (t * 2 ^ 23)).extractLsb' 31 1 = 0#1 := by
    apply BitVec.eq_of_toNat_eq
    rw [BitVec.extractLsb'_toNat, BitVec.toNat_ofNat, Nat.shiftRight_eq_div_pow]
    show _ = 0
    omega
  have h2 : ((BitVec.ofNat 32 (t * 2 ^ 23)).extractLsb' 23 8).toNat = t := by
    rw [BitVec.extractLsb'_toNat, BitVec.toNat_ofNat, Nat.shiftRight_eq_div_pow]
    omega
  have h3 : ((BitVec.ofNat 32 (t * 2 ^ 23)).extractLsb' 0 23).toNat = 0 := by
    rw [BitVec.extractLsb'_toNat, BitVec.toNat_ofNat, Nat.shiftRight_eq_div_pow]
    omega
  unfold Ideal.ieee pow
  simp only [h2, h3]
  rw [show (8 + 23 : ℕ) = 31 by rfl, h1]
  by_cases h255 : t = 255
  · subst h255; simp
  · by_cases h0 : t = 0
    · subst h0; simp
    · rw [if_neg (by norm_num; exact h255), if_neg h0, if_neg h255, if_neg h0]
      congr 1
      have e : ((t : ℤ) - (2 ^ (8 - 1) - 1) - (23 : ℕ)) = ((t : ℤ) - 127) - 23 := by norm_num
      rw [e, zpow_sub₀ (by norm_num : (2 : ℝ) ≠ 0) _ 23]
      norm_num
      ring

theorem power_apply (e : IVec S32x128 32) (i : S32x128.Idx) (t : ℕ) (ht : t < 256) (he : e i = BitVec.ofNat 32 t) :
    (power e : FVec Ideal S32x128 .f32) i = pow t := by
  rw [← ofBits_field t ht, ← he]
  show Ideal.ofBits .f32 (IntOp.shli .vector (e i) 23#32) = _
  rfl

/-- One step of the search: the exponent advances where the number is large enough. -/
theorem try_apply (y : FVec Ideal S32x128 .f32) (e : IVec S32x128 32) (i : S32x128.Idx) (s t : ℕ) (hs : t + s < 256) (he : e i = BitVec.ofNat 32 t) :
    try_ y e (BitVec.ofNat 32 s) i = BitVec.ofNat 32 (if pow (t + s) ≤ y i then t + s else t) := by
  have hsum : (addi e (const (BitVec.ofNat 32 s))) i = BitVec.ofNat 32 (t + s) := by
    show e i + BitVec.ofNat 32 s = _
    rw [he, BitVec.ofNat_add]
  unfold try_
  show Scalar.select (FloatOps.cmpf .oge (y i) ((power (addi e (const (BitVec.ofNat 32 s))) : FVec Ideal S32x128 .f32) i)) _ (e i) = _
  rw [power_apply _ i (t + s) hs hsum, hsum, he]
  by_cases h : pow (t + s) ≤ y i
  · rw [if_pos h]
    show Scalar.select (Ideal.cmp .oge (y i) (pow (t + s))) _ _ = _
    simp [Scalar.select, Ideal.cmp, h]
  · rw [if_neg h]
    show Scalar.select (Ideal.cmp .oge (y i) (pow (t + s))) _ _ = _
    simp [Scalar.select, Ideal.cmp, h]

theorem pow_mono (s t : ℕ) (h : s ≤ t) (ht : t < 256) : pow s ≤ pow t := by
  unfold pow
  split_ifs with h1 h2 h3 h4 h5 h6
  · exact le_rfl
  · omega
  · omega
  · exact le_top
  · exact le_rfl
  · exact EReal.coe_nonneg.2 (by positivity)
  · exact le_top
  · omega
  · exact EReal.coe_le_coe_iff.2 (zpow_le_zpow_right₀ (by norm_num) (by omega))

/-- The search in full: the field is the only exponent whose power the number reaches and whose successor's it does not. -/
theorem field_apply (y : FVec Ideal S32x128 .f32) (i : S32x128.Idx) (n : ℕ) (hn : n < 255) (h1 : pow n ≤ y i) (h2 : y i < pow (n + 1)) :
    field y i = BitVec.ofNat 32 n := by
  have hq : ∀ t, t < 256 → (pow t ≤ y i ↔ t ≤ n) := fun t ht =>
    ⟨fun h => by
      by_contra hc
      exact absurd ((pow_mono (n + 1) t (by omega) ht).trans h) (not_le.2 h2),
     fun h => (pow_mono t n h (by omega)).trans h1⟩
  have step : ∀ (e : IVec S32x128 32) (s t : ℕ), t + s < 256 → e i = BitVec.ofNat 32 t →
      try_ y e (BitVec.ofNat 32 s) i = BitVec.ofNat 32 (if t + s ≤ n then t + s else t) := fun e s t hs he => by
    rw [try_apply y e i s t hs he]
    simp only [hq (t + s) hs]
  obtain ⟨t0, ht0⟩ : ∃ t, t = 0 := ⟨0, rfl⟩
  have e0 : const 0#32 i = BitVec.ofNat 32 t0 := by rw [ht0]; rfl
  have H : ∀ (e : IVec S32x128 32) (s t : ℕ), 0 < s → t + 2 * s ≤ 256 → e i = BitVec.ofNat 32 t → t ≤ n → n < t + 2 * s →
      ∃ t', t' + s ≤ 256 ∧ try_ y e (BitVec.ofNat 32 s) i = BitVec.ofNat 32 t' ∧ t' ≤ n ∧ n < t' + s := fun e s t hs0 hs he ha hb => by
    refine ⟨if t + s ≤ n then t + s else t, ?_, step e s t (by omega) he, ?_, ?_⟩ <;> split_ifs <;> omega
  obtain ⟨t1, a1, e1, b1, c1⟩ := H _ 128 t0 (by omega) (by omega) e0 (by omega) (by omega)
  obtain ⟨t2, a2, e2, b2, c2⟩ := H _ 64 t1 (by omega) (by omega) e1 (by omega) (by omega)
  obtain ⟨t3, a3, e3, b3, c3⟩ := H _ 32 t2 (by omega) (by omega) e2 (by omega) (by omega)
  obtain ⟨t4, a4, e4, b4, c4⟩ := H _ 16 t3 (by omega) (by omega) e3 (by omega) (by omega)
  obtain ⟨t5, a5, e5, b5, c5⟩ := H _ 8 t4 (by omega) (by omega) e4 (by omega) (by omega)
  obtain ⟨t6, a6, e6, b6, c6⟩ := H _ 4 t5 (by omega) (by omega) e5 (by omega) (by omega)
  obtain ⟨t7, a7, e7, b7, c7⟩ := H _ 2 t6 (by omega) (by omega) e6 (by omega) (by omega)
  obtain ⟨t8, a8, e8, b8, c8⟩ := H _ 1 t7 (by omega) (by omega) e7 (by omega) (by omega)
  unfold field
  rw [e8, show t8 = n by omega]

end Cert.KernelIdeal.Val

end
-- ==== Proof.Value.ScaleExp.lean ====
/-
  The scale of a patch and its inverse as powers of two, from the patch's largest magnitude.
-/
module

public import proofs.«01_k».proof.Proof.Value.Exponent

@[expose] public section

noncomputable section

namespace Cert.Val

open Idealize.ShloMosaic

/-- The constant that the largest magnitude is multiplied by. -/
def rho : ℝ := 9586981 / 4294967296

theorem ofBits_rho : Ideal.ofBits .f32 0x3B124925#32 = ((rho : ℝ) : EReal) := by
  unfold rho
  simp [Ideal.ofBits, Ideal.ieee, -EReal.coe_mul]
  norm_num

theorem rho_pos : 0 < rho := by unfold rho; norm_num

/-- The exponent of the scale, from the largest magnitude. -/
def ex (A : ℝ) : ℤ := if A = 0 then 0 else ⌊Real.log (A * rho) / Real.log 2⌋ + 1

theorem floor_log (y : ℝ) (hy : 0 < y) :
    (2 : ℝ) ^ ⌊Real.log y / Real.log 2⌋ ≤ y ∧ y < (2 : ℝ) ^ (⌊Real.log y / Real.log 2⌋ + 1) := by
  have h2 : 0 < Real.log 2 := Real.log_pos (by norm_num)
  constructor
  · rw [← Real.log_le_log_iff (by positivity) hy, Real.log_zpow]
    exact (le_div_iff₀ h2).1 (Int.floor_le _)
  · rw [← Real.log_lt_log_iff hy (by positivity), Real.log_zpow]
    push_cast
    exact (div_lt_iff₀ h2).1 (Int.lt_floor_add_one _)

end Cert.Val

namespace Cert.KernelIdeal.Val

open Idealize.ShloMosaic Idealize.ShloMosaic.TcCoe Cert.KernelIdeal.Gen Cert.KernelIdeal Cert.Val

/-- The largest magnitudes that the search treats. -/
def InRange (A : ℝ) : Prop := A = 0 ∨ ((2 : ℝ) ^ (-126 : ℤ) ≤ A * rho ∧ A * rho < (2 : ℝ) ^ (100 : ℤ))

theorem expo_apply (a : FVec Ideal S32x128 .f32) (i : S32x128.Idx) (A : ℝ) (ha : a i = ((A : ℝ) : EReal)) (hr : InRange A) :
    ∃ n : ℕ, n < 240 ∧ 0 < n ∧ ex A = (n : ℤ) - 126 ∧ expo a i = BitVec.ofNat 32 n - 126#32 := by
  unfold expo
  by_cases h0 : A = 0
  · refine ⟨126, by decide, by decide, ?_, ?_⟩
    · unfold ex; rw [if_pos h0]; rfl
    · show Scalar.select (Ideal.cmp .oeq (a i) (Ideal.ofBits .f32 0x00000000#32)) _ _ = _
      rw [ha, h0, Ideal.ofBits_zero_f32]
      simp [Scalar.select, Ideal.cmp, const]
      rfl
  · obtain ⟨h1, h2⟩ := hr.resolve_left h0
    have hy : 0 < A * rho := lt_of_lt_of_le (by positivity) h1
    obtain ⟨f1, f2⟩ := floor_log (A * rho) hy
    generalize hE : ⌊Real.log (A * rho) / Real.log 2⌋ = E at f1 f2
    have b1 : -126 ≤ E := by
      have := (zpow_lt_zpow_iff_right₀ (by norm_num : (1 : ℝ) < 2)).1 (h1.trans_lt f2)
      omega
    have b2 : E < 100 := (zpow_lt_zpow_iff_right₀ (by norm_num : (1 : ℝ) < 2)).1 (f1.trans_lt h2)
    refine ⟨(E + 127).toNat, by omega, by omega, ?_, ?_⟩
    · unfold ex; rw [if_neg h0, hE]; omega
    · have hy' : (mulf a (broadcast S32x128 (Scalar.ofBits .f32 0x3B124925#32)) : FVec Ideal S32x128 .f32) i = ((A * rho : ℝ) : EReal) := by
        show a i * Ideal.ofBits .f32 0x3B124925#32 = _
        rw [ha, ofBits_rho, EReal.coe_mul]
      have hf := field_apply (mulf a (broadcast S32x128 (Scalar.ofBits .f32 0x3B124925#32)) : FVec Ideal S32x128 .f32) i (E + 127).toNat (by omega)
        (by
          rw [hy']; unfold pow
          rw [if_neg (by omega), if_neg (by omega), show (((E + 127).toNat : ℤ) - 127) = E by omega]
          exact EReal.coe_le_coe_iff.2 f1)
        (by
          rw [hy']; unfold pow
          rw [if_neg (by omega), if_neg (by omega), show ((((E + 127).toNat + 1 : ℕ) : ℤ) - 127) = E + 1 by omega]
          exact EReal.coe_lt_coe_iff.2 f2)
      show Scalar.select (Ideal.cmp .oeq (a i) (Ideal.ofBits .f32 0x00000000#32)) _ (field _ i - 126#32) = _
      rw [hf, ha, Ideal.ofBits_zero_f32]
      simp [Scalar.select, Ideal.cmp, h0]

theorem scale_apply (a : FVec Ideal S32x128 .f32) (i : S32x128.Idx) (A : ℝ) (ha : a i = ((A : ℝ) : EReal)) (hr : InRange A) :
    (scale a : FVec Ideal S32x128 .f32) i = (((2 : ℝ) ^ (ex A) : ℝ) : EReal) := by
  obtain ⟨n, h1, h2, h3, h4⟩ := expo_apply a i A ha hr
  unfold scale
  rw [power_apply _ i (n + 1) (by omega) (by show 127#32 + expo a i = _; rw [h4]; bv_omega)]
  unfold pow
  rw [if_neg (by omega), if_neg (by omega), h3]
  congr 2
  omega

theorem inverse_apply (a : FVec Ideal S32x128 .f32) (i : S32x128.Idx) (A : ℝ) (ha : a i = ((A : ℝ) : EReal)) (hr : InRange A) :
    (inverse a : FVec Ideal S32x128 .f32) i = (((2 : ℝ) ^ (-ex A) : ℝ) : EReal) := by
  obtain ⟨n, h1, h2, h3, h4⟩ := expo_apply a i A ha hr
  unfold inverse
  rw [power_apply _ i (253 - n) (by omega) (by show 127#32 - expo a i = _; rw [h4]; bv_omega)]
  unfold pow
  rw [if_neg (by omega), if_neg (by omega), h3]
  congr 2
  omega

end Cert.KernelIdeal.Val

end
-- ==== Proof.Value.WidthModel.lean ====
/-
  The width pass as a recursion over its 24 input tiles: tile `k`'s product of the band of resize weights with 64
  columns of the image, the rows left over by tile `k - 1` added at its top, the finished rows stored in `t1`. The 96
  stores that the run of the body finds are this recursion's, by definitional unfolding.
-/
module

public import proofs.«01_k».proof.Proof.KernelIdeal.Resize

@[expose] public section

noncomputable section

namespace Cert.KernelIdeal.Val

open Idealize.ShloMosaic Idealize.ShloMosaic.TcCoe Cert.KernelIdeal.Gen

variable {F : FTy → Type} [FloatOps F] [Named F]

/-- The output column at which tile `k`'s band starts. -/
def start (k : ℕ) : ℕ :=
  [0, 14, 32, 48, 64, 80, 96, 112, 130, 146, 162, 178, 194, 210, 228, 244, 260, 276, 292, 308, 326, 342, 358, 374].getD k 394

/-- How many rows of `t1` (four per output column) tile `k` finishes. -/
def done (k : ℕ) : ℕ := 4 * (start (k + 1) - start k)

theorem done_le (k : ℕ) : done k ≤ 80 := by
  rcases Nat.lt_or_ge k 24 with h | h
  · interval_cases k <;> decide
  · have e : ∀ j, 24 ≤ j → start j = 394 := fun j hj => by
      simp [start, List.getD, hj]
    unfold done
    rw [e k h, e (k + 1) (by omega)]
    decide

theorem start_done (k : ℕ) : 4 * start k + done k ≤ 1600 := by
  rcases Nat.lt_or_ge k 24 with h | h
  · interval_cases k <;> decide
  · have e : ∀ j, 24 ≤ j → start j = 394 := fun j hj => by
      simp [start, List.getD, hj]
    unfold done
    rw [e k h, e (k + 1) (by omega)]
    decide

/-- A shape of `n` rows of 512. -/
abbrev Rows (n : ℕ) : Shape := ⟨2, ![n, 512]⟩

theorem rows_slices (n d : ℕ) (h : n + d ≤ 80) : S80x512.Slices ![n, 0] (Rows d) :=
  ⟨rfl, Fin.forall_fin_two.2 ⟨h, Nat.le_refl 512⟩⟩

theorem rows_concat (n d : ℕ) (h : n + d = 80) : Shape.Concatenates [Rows n, Rows d] S80x512 0 := by
  refine ⟨by simp, ?_, ?_⟩
  · intro s hs
    simp only [List.mem_cons, List.not_mem_nil, or_false] at hs
    rcases hs with rfl | rfl
    all_goals
      refine ⟨rfl, fun b hb => ?_⟩
      match b with
      | 0 => exact absurd rfl hb
      | 1 => rfl
  · show n + (d + 0) = 80
    omega

section
variable (X : ℕ → Vec F S1x1x2048x128 .i8) (W : ℕ → Vec F S1x80x256 .bf16)

/-- Tile `k`'s product: the band of weights times the tile's half of its strip of the image. -/
def prod (k : ℕ) : FVec F S80x512 .f32 :=
  matmul dot_S80x256_S256x512_S80x512_1_0_0_1_n_n none (shapeCast S80x256 (W k) shapeCasts_S1x80x256_S80x256)
    (extractStridedSlice S256x512 ![256 * (k % 2), 0] (k0_pay1650 (X (k / 2)))
      ⟨rfl, Fin.forall_fin_two.2 ⟨by show 256 * (k % 2) + 256 ≤ 512; omega, Nat.le_refl 512⟩⟩)
    (constant S80x512 .f32 0x00000000#32)

/-- Tile `k`'s rows: its product, with the rows that tile `k - 1` did not finish added at the top. -/
def tile : ℕ → FVec F S80x512 .f32
  | 0 => prod X W 0
  | k + 1 =>
    concatenate S80x512 0
      [⟨Rows (80 - done k),
        addf (extractStridedSlice (Rows (80 - done k)) ![0, 0] (prod X W (k + 1)) (rows_slices 0 _ (by omega)))
          (extractStridedSlice (Rows (80 - done k)) ![done k, 0] (tile k) (rows_slices _ _ (by have := done_le k; omega)))⟩,
       ⟨Rows (done k), extractStridedSlice (Rows (done k)) ![80 - done k, 0] (prod X W (k + 1))
          (rows_slices _ _ (by have := done_le k; omega))⟩]
      (rows_concat _ _ (by have := done_le k; omega))

/-- What tile `k` stores in block `q` of `t1`. -/
def stored (k : ℕ) (q : Fin 4) : FVec F (⟨3, ![1, done k, 128]⟩ : Shape) .f32 :=
  shapeCast ⟨3, ![1, done k, 128]⟩
    (extractStridedSlice ⟨2, ![done k, 128]⟩ ![0, 128 * q.val] (tile X W k)
      ⟨rfl, Fin.forall_fin_two.2 ⟨by show 0 + done k ≤ 80; have := done_le k; omega,
        by show 128 * q.val + 128 ≤ 512; omega⟩⟩)
    (by show _ = _; simp [Shape.numel, Fin.prod_univ_succ])

/-- Tile `k`'s store into block `q` of `t1`. -/
def piece (k : ℕ) (q : Fin 4) : View.Piece (Elt F) S4x1600x128 .f32 :=
  ⟨Rect.unit (s := S4x1600x128) ![q.val, 4 * start k, 0] ![1, done k, 128] (by
      intro a
      match a with
      | 0 => show q.val + 1 ≤ 4; omega
      | 1 => exact start_done k
      | 2 => exact Nat.le_refl 128), stored X W k q⟩

/-- The stores of the first `k` tiles, the last first. -/
def pieces : ℕ → List (View.Piece (Elt F) S4x1600x128 .f32)
  | 0 => []
  | k + 1 => piece X W k 3 :: piece X W k 2 :: piece X W k 1 :: piece X W k 0 :: pieces k
end

/-- Strip `s` of 128 columns of the image block. -/
def strip (c : Dev nD) (M2 : Memref sig .tc .vmem S1x1x2048x1536 .i8) (f2 : Bf (F := F) c M2) (s : ℕ) : Vec F S1x1x2048x128 .i8 :=
  View.readAt (Elt F) M2.view (Rect.unit (s := S1x1x2048x1536) ![0, 0, 0, 128 * (s % 12)] S1x1x2048x128.size (by
    intro a
    match a with
    | 0 => exact Nat.le_refl 1
    | 1 => exact Nat.le_refl 1
    | 2 => exact Nat.le_refl 2048
    | 3 => show 128 * (s % 12) + 128 ≤ 1536; omega)).toLoadRect f2

/-- Band `k` of the width weights. -/
def band (c : Dev nD) (M3 : Memref sig .tc .vmem S24x80x256 .bf16) (f3 : Bf (F := F) c M3) (k : ℕ) : Vec F S1x80x256 .bf16 :=
  View.readAt (Elt F) M3.view (Rect.unit (s := S24x80x256) ![k % 24, 0, 0] S1x80x256.size (by
    intro a
    match a with
    | 0 => show k % 24 + 1 ≤ 24; omega
    | 1 => exact Nat.le_refl 80
    | 2 => exact Nat.le_refl 256)).toLoadRect f3

set_option maxRecDepth 65536 in
set_option maxHeartbeats 4000000 in
/-- The stores of the width pass that the run finds. -/
theorem stores_eq (c : Dev nD) (M2 : Memref sig .tc .vmem S1x1x2048x1536 .i8) (M3 : Memref sig .tc .vmem S24x80x256 .bf16)
    (f2 : Bf (F := F) c M2) (f3 : Bf (F := F) c M3) :
    resizeRun.sl.H7_96 c M2 M3 f2 f3 = pieces (strip c M2 f2) (band c M3 f3) 24 := rfl

end Cert.KernelIdeal.Val

end
-- ==== Proof.Value.HeightModel.lean ====
/-
  The height pass as a function of the width pass's scratch: each half's operand, its product with the height tile, and
  the four parts normalised and stored in `v`. The run's own terms are these, by definitional unfolding.
-/
module

public import proofs.«01_k».proof.Proof.Value.WidthModel

@[expose] public section

noncomputable section

namespace Cert.KernelIdeal.Val

open Idealize.ShloMosaic Idealize.ShloMosaic.TcCoe Cert.KernelIdeal.Gen Cert.KernelIdeal

variable {F : FTy → Type} [FloatOps F] [Named F]

/-- Packed row `j` of block `q` of `t1`: rows `j`, `j + 4`, …. -/
def packedRow (c : Dev nD) (M7 : Memref sig .tc .vmem S4x1600x128 .f32) (g : Bf (F := F) c M7) (j q : ℕ) : Vec F S1x400x128 .f32 :=
  View.readAt (Elt F) M7.view (⟨![q % 4, j % 4, 0], S1x400x128.size, ![1, 4, 1], by
    intro a
    match a with
    | 0 => exact .inr (by show q % 4 + 1 * (1 - 1) < 4; omega)
    | 1 => exact .inr (by show j % 4 + 4 * (400 - 1) < 1600; omega)
    | 2 => exact .inr (by show 0 + 1 * (128 - 1) < 128; omega)⟩ : LoadRect S4x1600x128) g

/-- The left operand of half `half`. -/
def operandH (T : ℕ → ℕ → Vec F S1x400x128 .f32) (half : ℕ) : FVec F S400x1024 .bf16 :=
  concatenate S400x1024 1
    (List.ofFn fun n : Fin 8 => (⟨S400x128,
      truncf .bf16 (shapeCast S400x128 (T (n.val / 2) (2 * half + n.val % 2)) shapeCasts_S1x400x128_S400x128 : FVec F S400x128 .f32)
        bitsLt_bf16_f32⟩ : (s : Shape) × (s.Idx → F .bf16)))
    concatenates_S400x128_S400x128_S400x128_S400x128_S400x128_S400x128_S400x128_S400x128_S400x1024_d1

/-- Half `half`'s height tile. -/
def tileH (c : Dev nD) (M4 : Memref sig .tc .vmem S2x1024x256 .bf16) (f4 : Bf (F := F) c M4) (half : ℕ) : Vec F S1x1024x256 .bf16 :=
  View.readAt (Elt F) M4.view (Rect.unit (s := S2x1024x256) ![half % 2, 0, 0] S1x1024x256.size (by
    intro a
    match a with
    | 0 => show half % 2 + 1 ≤ 2; omega
    | 1 => exact Nat.le_refl 1024
    | 2 => exact Nat.le_refl 256)).toLoadRect f4

/-- Half `half`'s product. -/
def accH (T : ℕ → ℕ → Vec F S1x400x128 .f32) (H : ℕ → Vec F S1x1024x256 .bf16) (half : ℕ) : FVec F S400x256 .f32 :=
  matmul dot_S400x1024_S1024x256_S400x256_1_0_0_1_n_n none (operandH T half)
    (shapeCast S1024x256 (H half) shapeCasts_S1x1024x256_S1024x256) (constant S400x256 .f32 0x00000000#32)

variable (c : Dev nD) (M2 : Memref sig .tc .vmem S1x1x2048x1536 .i8) (M3 : Memref sig .tc .vmem S24x80x256 .bf16)
  (M4 : Memref sig .tc .vmem S2x1024x256 .bf16) (M7 : Memref sig .tc .vmem S4x1600x128 .f32)
  (f2 : Bf (F := F) c M2) (f3 : Bf (F := F) c M3) (f4 : Bf (F := F) c M4) (f7 : Bf (F := F) c M7)

set_option maxRecDepth 65536 in
theorem acc0_eq : resizeRun.sl.v706 c M2 M3 M4 M7 f2 f3 f4 f7
    = accH (packedRow c M7 (M7.view.writes (Elt F) f7 (resizeRun.sl.H7_96 c M2 M3 f2 f3))) (tileH c M4 f4) 0 := rfl

set_option maxRecDepth 65536 in
theorem acc1_eq : resizeRun.sl.v734 c M2 M3 M4 M7 f2 f3 f4 f7
    = accH (packedRow c M7 (M7.view.writes (Elt F) f7 (resizeRun.sl.H7_96 c M2 M3 f2 f3))) (tileH c M4 f4) 1 := rfl

end Cert.KernelIdeal.Val

end
-- ==== Proof.Value.StoreModel.lean ====
/-
  What the first half of the body stores into the scratch `v`: the four quarters of the channel's output rows, each the
  accumulator of its half, two of them completed by the rows that straddle the halves, then normalised.
-/
module

public import proofs.«01_k».proof.Proof.Value.HeightModel

@[expose] public section

noncomputable section

namespace Cert.KernelIdeal.Val

open Idealize.ShloMosaic Idealize.ShloMosaic.TcCoe Cert.KernelIdeal.Gen Cert.KernelIdeal

variable {F : FTy → Type} [FloatOps F] [Named F]

/-- The lane numbers. -/
def lanes : IVec S400x128 32 := iota .tc S400x128 32 [1] iota_S400x128_d1_w32

/-- Whether the lane is `n`. -/
def laneIs (n : ℕ) : IVec S400x128 1 := cmpi .eq lanes (broadcast S400x128 (BitVec.ofNat 32 n))

def zeros : FVec F S400x128 .f32 := broadcast S400x128 (Scalar.ofBits .f32 0x00000000#32)

/-- The sums of quarter `q` from the two accumulators. -/
def quarter (A₀ A₁ : FVec F S400x256 .f32) : ℕ → FVec F S400x128 .f32
  | 0 => extractStridedSlice S400x128 ![0, 0] A₀ slices_S400x256_o0_0_S400x128
  | 1 => addf (extractStridedSlice S400x128 ![0, 128] A₀ slices_S400x256_o0_128_S400x128)
      (select (laneIs 109) (extractStridedSlice S400x128 ![0, 128] A₁ slices_S400x256_o0_128_S400x128) zeros)
  | 2 => addf (extractStridedSlice S400x128 ![0, 0] A₁ slices_S400x256_o0_0_S400x128)
      (select (ori (laneIs 14) (laneIs 126)) (extractStridedSlice S400x128 ![0, 0] A₀ slices_S400x256_o0_0_S400x128) zeros)
  | _ => extractStridedSlice S400x128 ![0, 128] A₁ slices_S400x256_o0_128_S400x128

/-- A quarter normalised, as stored. -/
def normalised (i : grid0.Coords) (x : FVec F S400x128 .f32) : FVec F S1x1x400x128 .f32 :=
  shapeCast S1x1x400x128 (subf (mulf x (broadcast S400x128 (k0_pay1648 i))) (broadcast S400x128 (k0_pay1649 i))) shapeCasts_S400x128_S1x1x400x128

/-- The four stores, the last first. -/
def vPieces (i : grid0.Coords) (A₀ A₁ : FVec F S400x256 .f32) : List (View.Piece (Elt F) S3x4x448x128 .f32) :=
  [⟨Rect.unit (s := S3x4x448x128) (k0_off4 i) S1x1x400x128.size (k0_off4_inb i), normalised i (quarter A₀ A₁ 3)⟩,
   ⟨Rect.unit (s := S3x4x448x128) (k0_off3 i) S1x1x400x128.size (k0_off3_inb i), normalised i (quarter A₀ A₁ 2)⟩,
   ⟨Rect.unit (s := S3x4x448x128) (k0_off2 i) S1x1x400x128.size (k0_off2_inb i), normalised i (quarter A₀ A₁ 1)⟩,
   ⟨Rect.unit (s := S3x4x448x128) (k0_off1 i) S1x1x400x128.size (k0_off1_inb i), normalised i (quarter A₀ A₁ 0)⟩]

variable (c : Dev nD) (i : grid0.Coords) (M2 : Memref sig .tc .vmem S1x1x2048x1536 .i8) (h2 : M2.IsWhole)
  (M3 : Memref sig .tc .vmem S24x80x256 .bf16) (h3 : M3.IsWhole) (M4 : Memref sig .tc .vmem S2x1024x256 .bf16) (h4 : M4.IsWhole)
  (M5 : Memref sig .tc .vmem S1x784x588 .fp8e4m3) (h5 : M5.IsWhole) (M6 : Memref sig .tc .vmem S1x1x784 .f32) (h6 : M6.IsWhole)
  (M7 : Memref sig .tc .vmem S4x1600x128 .f32) (h7 : M7.IsWhole) (M8 : Memref sig .tc .vmem S3x4x448x128 .f32) (h8 : M8.IsWhole)
  (M9 : Memref sig .tc .vmem S5x800x128 .f32) (h9 : M9.IsWhole)
  (f2 : Bf (F := F) c M2) (f3 : Bf (F := F) c M3) (f4 : Bf (F := F) c M4) (f7 : Bf (F := F) c M7) (f8 : Bf (F := F) c M8)

/-- The accumulator of a half, of what the width pass has stored. -/
def acc (half : ℕ) : FVec F S400x256 .f32 :=
  accH (packedRow c M7 (M7.view.writes (Elt F) f7 (pieces (strip c M2 f2) (band c M3 f3) 24))) (tileH c M4 f4) half

set_option maxRecDepth 65536 in
set_option maxHeartbeats 4000000 in
theorem v_eq : (resizeRun c i M2 h2 M3 h3 M4 h4 M5 h5 M6 h6 M7 h7 M8 h8 M9 h9 f2 f3 f4 f7 f8).1.2.1
    = M8.view.writes (Elt F) f8 (vPieces i (acc c M2 M3 M4 M7 f2 f3 f4 f7 0) (acc c M2 M3 M4 M7 f2 f3 f4 f7 1)) := by
  dsimp only [resizeRun]
  unfold acc
  rw [← stores_eq, ← acc0_eq, ← acc1_eq]
  rfl

end Cert.KernelIdeal.Val

end
-- ==== Proof.Value.HostModel.lean ====
/-
  The two arrays of resize weights that the host builds for the kernel, as functions written plainly: the weights of
  one axis, the width weights cut into bands and spread over the four packed rows, the height weights gathered by the
  table of output rows. That the host operations compute these functions is definitional.
-/
module

public import proofs.«01_k».proof.Proof.Value.WidthModel
public import Idealize.ShloMosaic.Lib.StableHlo.RunRead
public import Idealize.ShloMosaic.Lib.Claim

@[expose] public section

noncomputable section

namespace Cert.KernelIdeal.Val

open Idealize.ShloMosaic Idealize.ShloMosaic.TcCoe Cert.KernelIdeal.Gen Cert.KernelIdeal

variable {F : FTy → Type} [FloatOps F] [Named F]

/-- The ratio of the two sizes of the width. -/
def ratioW : FVec F S_ .f32 := Host.divf (constant S_ .f32 0x44C00000#32) (constant S_ .f32 0x43C40000#32)

/-- The triangle filter of the width, not normalised. -/
def triW : FVec F S392x1536 .f32 :=
  maximumf (broadcastInDim S392x1536 ![] bcast_S_S392x1536 (constant S_ .f32 0x00000000#32))
    (subf (broadcastInDim S392x1536 ![] bcast_S_S392x1536 (constant S_ .f32 0x3F800000#32))
      (Host.divf
        (Host.absf
          (subf
            (broadcastInDim S392x1536 ![0, 1] bcast_S1x1536_S392x1536_0_1
              (addf (broadcastInDim S1x1536 ![1] bcast_S1536_S1x1536_1 (sitofp .f32 (iotaInDim S1536 32 0)))
                (broadcastInDim S1x1536 ![] bcast_S_S1x1536 (constant S_ .f32 0x3F000000#32))))
            (broadcastInDim S392x1536 ![0, 1] bcast_S392x1_S392x1536_0_1
              (broadcastInDim S392x1 ![0] bcast_S392_S392x1_0
                (mulf
                  (addf (sitofp .f32 (iotaInDim S392 32 0)) (broadcastInDim S392 ![] bcast_S_S392 (constant S_ .f32 0x3F000000#32)))
                  (broadcastInDim S392 ![] bcast_S_S392 ratioW))))))
        (broadcastInDim S392x1536 ![] bcast_S_S392x1536 ratioW)))

/-- The weights of the width, with eight rows of zeros below. -/
def weightsW : FVec F S400x1536 .bf16 :=
  pad S400x1536 ![0, 0] ![8, 0] ![0, 0]
    (truncf .bf16
      (Host.divf triW
        (broadcastInDim S392x1536 ![0, 1] bcast_S392x1_S392x1536_0_1
          (broadcastInDim S392x1 ![0] bcast_S392_S392x1_0
            (Host.reduceAdd triW (constant S_ .f32 0x00000000#32) reducesTo_S392x1536_S392_d1 h_S_))))
      bitsLt_bf16_f32)
    (sitofp .bf16 (constantI S_ 32 0#32)) pads_S392x1536_S400x1536_080_000 h_S_

/-- The ratio of the two sizes of the height. -/
def ratioH : FVec F S_ .f32 := Host.divf (constant S_ .f32 0x45000000#32) (constant S_ .f32 0x43C40000#32)

/-- The triangle filter of the height, not normalised. -/
def triH : FVec F S392x2048 .f32 :=
  maximumf (broadcastInDim S392x2048 ![] bcast_S_S392x2048 (constant S_ .f32 0x00000000#32))
    (subf (broadcastInDim S392x2048 ![] bcast_S_S392x2048 (constant S_ .f32 0x3F800000#32))
      (Host.divf
        (Host.absf
          (subf
            (broadcastInDim S392x2048 ![0, 1] bcast_S1x2048_S392x2048_0_1
              (addf (broadcastInDim S1x2048 ![1] bcast_S2048_S1x2048_1 (sitofp .f32 (iotaInDim S2048 32 0)))
                (broadcastInDim S1x2048 ![] bcast_S_S1x2048 (constant S_ .f32 0x3F000000#32))))
            (broadcastInDim S392x2048 ![0, 1] bcast_S392x1_S392x2048_0_1
              (broadcastInDim S392x1 ![0] bcast_S392_S392x1_0
                (mulf
                  (addf (sitofp .f32 (iotaInDim S392 32 0)) (broadcastInDim S392 ![] bcast_S_S392 (constant S_ .f32 0x3F000000#32)))
                  (broadcastInDim S392 ![] bcast_S_S392 ratioH))))))
        (broadcastInDim S392x2048 ![] bcast_S_S392x2048 ratioH)))

/-- The weights of the height, with eight rows of zeros below. -/
def weightsH : FVec F S400x2048 .bf16 :=
  pad S400x2048 ![0, 0] ![8, 0] ![0, 0]
    (truncf .bf16
      (Host.divf triH
        (broadcastInDim S392x2048 ![0, 1] bcast_S392x1_S392x2048_0_1
          (broadcastInDim S392x1 ![0] bcast_S392_S392x1_0
            (Host.reduceAdd triH (constant S_ .f32 0x00000000#32) reducesTo_S392x2048_S392_d1 h_S_))))
      bitsLt_bf16_f32)
    (sitofp .bf16 (constantI S_ 32 0#32)) pads_S392x2048_S400x2048_080_000 h_S_

theorem start_le (k : ℕ) : start (k % 24) + 20 ≤ 400 := by
  have h : k % 24 < 24 := Nat.mod_lt _ (by decide)
  generalize k % 24 = j at h
  interval_cases j <;> decide

/-- Band `k` of the width weights: twenty output columns by sixty-four input columns. -/
def bandW (k : ℕ) : FVec F S1x20x64 .bf16 :=
  broadcastInDim S1x20x64 ![1, 2] bcast_S20x64_S1x20x64_1_2
    (extractStridedSlice S20x64 ![start (k % 24), 64 * (k % 24)] (weightsW : FVec F S400x1536 .bf16)
      ⟨rfl, Fin.forall_fin_two.2 ⟨start_le k, by show 64 * (k % 24) + 64 ≤ 1536; omega⟩⟩)

/-- The twenty-four bands. -/
def bandsW : FVec F S24x20x64 .bf16 :=
  concatenate S24x20x64 0
    [⟨S16x20x64, concatenate S16x20x64 0 (List.ofFn fun k : Fin 16 => (⟨S1x20x64, bandW k.val⟩ : (s : Shape) × (s.Idx → F .bf16)))
        concatenates_S1x20x64_S1x20x64_S1x20x64_S1x20x64_S1x20x64_S1x20x64_S1x20x64_S1x20x64_S1x20x64_S1x20x64_S1x20x64_S1x20x64_S1x20x64_S1x20x64_S1x20x64_S1x20x64_S16x20x64_d0⟩,
     ⟨S8x20x64, concatenate S8x20x64 0 (List.ofFn fun k : Fin 8 => (⟨S1x20x64, bandW (16 + k.val)⟩ : (s : Shape) × (s.Idx → F .bf16)))
        concatenates_S1x20x64_S1x20x64_S1x20x64_S1x20x64_S1x20x64_S1x20x64_S1x20x64_S1x20x64_S8x20x64_d0⟩]
    concatenates_S16x20x64_S8x20x64_S24x20x64_d0

/-- Where the packed row of a tile's row is that of its column. -/
def samePack : IVec S4x1x4 1 :=
  cmpi .eq (broadcastInDim S4x1x4 ![0, 1, 2] bcast_S4x1x1_S4x1x4_0_1_2 (broadcastInDim S4x1x1 ![0] bcast_S4_S4x1x1_0 (iotaInDim S4 32 0)))
    (broadcastInDim S4x1x4 ![0, 1, 2] bcast_S1x1x4_S4x1x4_0_1_2 (broadcastInDim S1x1x4 ![2] bcast_S4_S1x1x4_2 (iotaInDim S4 32 0)))

/-- The width tiles, the packed rows apart. -/
def spreadW : FVec F S24x20x4x64x4 .bf16 :=
  select (broadcastInDim S24x20x4x64x4 ![2, 3, 4] bcast_S4x1x4_S24x20x4x64x4_2_3_4 samePack)
    (broadcastInDim S24x20x4x64x4 ![0, 1, 2, 3, 4] bcast_S24x20x1x64x1_S24x20x4x64x4_0_1_2_3_4
      (broadcastInDim S24x20x1x64x1 ![0, 1, 3] bcast_S24x20x64_S24x20x1x64x1_0_1_3 bandsW))
    (broadcastInDim S24x20x4x64x4 ![] bcast_S_S24x20x4x64x4 (constant S_ .bf16 0x0000#16))

/-- The width tiles. -/
def tilesW : FVec F S24x80x256 .bf16 := shapeCast S24x80x256 spreadW shapeCasts_S24x20x4x64x4_S24x80x256

/-- The height weights of the half starting at input row `o`, gathered by `rows`, input rows by output rows. -/
def gatheredH (o : ℕ) (h : S400x2048.Slices ![0, o] S400x1024) (rows : IVec S256 32) : FVec F S1x1024x256 .bf16 :=
  broadcastInDim S1x1024x256 ![1, 2] bcast_S1024x256_S1x1024x256_1_2
    (shapeCast S1024x256
      (transpose S4x256x256 [2, 1, 0]
        (shapeCast S256x256x4
          (Host.gather gather_S400x1024_S256x1_S256x1024_1_0_n_n_0_1_11024 (extractStridedSlice S400x1024 ![0, o] (weightsH : FVec F S400x2048 .bf16) h)
            (broadcastInDim S256x1 ![0] bcast_S256_S256x1_0 rows))
          shapeCasts_S256x1024_S256x256x4)
        transposes_S256x256x4_S4x256x256_2_1_0)
      shapeCasts_S4x256x256_S1024x256)

/-- The two height tiles. -/
def tilesH : FVec F S2x1024x256 .bf16 :=
  concatenate S2x1024x256 0
    [⟨S1x1024x256, gatheredH 0 slices_S400x2048_S400x1024_0_0 (fun i => lit0 (S256.rowMajor i))⟩,
     ⟨S1x1024x256, gatheredH 1024 slices_S400x2048_S400x1024_0_1024 (fun i => lit1 (S256.rowMajor i))⟩]
    concatenates_S1x1024x256_S1x1024x256_S2x1024x256_d0

theorem pair_congr {α : Type} {t s₁ s₂ : Shape} {a : Fin t.rank} {x₁ y₁ : s₁.Idx → α} {x₂ y₂ : s₂.Idx → α}
    {h : Shape.Concatenates [s₁, s₂] t a} (e₁ : x₁ = y₁) (e₂ : x₂ = y₂) :
    concatenate t a [⟨s₁, x₁⟩, ⟨s₂, x₂⟩] h = concatenate t a [⟨s₁, y₁⟩, ⟨s₂, y₂⟩] h := by
  subst e₁ e₂; rfl

theorem bandsW_of {x₁ : FVec F S16x20x64 .bf16} {x₂ : FVec F S8x20x64 .bf16}
    (e₁ : x₁ = concatenate S16x20x64 0 (List.ofFn fun k : Fin 16 => (⟨S1x20x64, bandW k.val⟩ : (s : Shape) × (s.Idx → F .bf16)))
        concatenates_S1x20x64_S1x20x64_S1x20x64_S1x20x64_S1x20x64_S1x20x64_S1x20x64_S1x20x64_S1x20x64_S1x20x64_S1x20x64_S1x20x64_S1x20x64_S1x20x64_S1x20x64_S1x20x64_S16x20x64_d0)
    (e₂ : x₂ = concatenate S8x20x64 0 (List.ofFn fun k : Fin 8 => (⟨S1x20x64, bandW (16 + k.val)⟩ : (s : Shape) × (s.Idx → F .bf16)))
        concatenates_S1x20x64_S1x20x64_S1x20x64_S1x20x64_S1x20x64_S1x20x64_S1x20x64_S1x20x64_S8x20x64_d0) :
    concatenate S24x20x64 0 [⟨S16x20x64, x₁⟩, ⟨S8x20x64, x₂⟩] concatenates_S16x20x64_S8x20x64_S24x20x64_d0 = (bandsW : FVec F S24x20x64 .bf16) := by
  subst e₁ e₂; rfl

theorem list_congr {α : Type} {t : Shape} {a : Fin t.rank} {l l' : List ((s : Shape) × (s.Idx → α))}
    {h : Shape.Concatenates (l.map (·.1)) t a} {h' : Shape.Concatenates (l'.map (·.1)) t a} (e : l = l') :
    concatenate t a l h = concatenate t a l' h' := by
  subst e; rfl

theorem cons_congr {α : Type} {s : Shape} {x y : s.Idx → α} {l l' : List ((s : Shape) × (s.Idx → α))} (e : x = y) (e' : l = l') :
    (⟨s, x⟩ : (s : Shape) × (s.Idx → α)) :: l = ⟨s, y⟩ :: l' := by
  subst e e'; rfl

variable (m : (ℓ : Loc nD τ sig) → Buf (Elt F) ℓ)

open Idealize.ShloMosaic.StableHlo

set_option maxRecDepth 16384 in
/-- The host's height tiles. -/
theorem V_tilesH (c : Dev nD) : V m c main_v127 = (tilesH : FVec F S2x1024x256 .bf16) := by
  unfold_abbrev_sides
  after_reads_simp
  refine pair_congr ?_ ?_
  · after_reads_simp
    rfl
  · after_reads_simp
    rfl

set_option maxHeartbeats 4000000 in
set_option maxRecDepth 16384 in
/-- The host's width tiles. -/
theorem V_tilesW (c : Dev nD) : V m c main_v87 = (tilesW : FVec F S24x80x256 .bf16) := by
  unfold_abbrev_sides
  after_reads_simp
  simp only [TRef.ofBuf, TRef.toBuf, cast_eq]
  rw [bandsW_of]
  · rfl
  all_goals
    after_reads_simp
    refine list_congr ?_
    simp only [List.ofFn_succ, List.ofFn_zero]
    repeat' refine cons_congr ?_ ?_
    all_goals first
      | exact rfl
      | (simp only [Matrix.cons_val]
         after_reads_simp
         rfl)

end Cert.KernelIdeal.Val

end
-- ==== Proof.Value.Bytes.lean ====
/-
  The image bytes as the width pass reads them: the strip's bytes packed four rows to a word, transposed, and unpacked
  again, so that row `r` of the operand is column `r / 4` of the strip and its column `l` the strip's row `4 l + r % 4`.
-/
module

public import proofs.«01_k».proof.Proof.Value.WidthModel
public import Idealize.ShloMosaic.Lib.BitcastFour
public import Idealize.ShloMosaic.Lib.Pointwise
public import Idealize.ShloMosaic.Lib.Pointwise.IndexVar
public import Idealize.ShloMosaic.Lib.Pointwise.IndexBridge

@[expose] public section

noncomputable section

namespace Cert.KernelIdeal.Val

open Idealize.ShloMosaic Idealize.ShloMosaic.TcCoe Cert.KernelIdeal.Gen Cert.KernelIdeal

/-- Words of thirty-two bits read as bytes: row `p` of the bytes is byte `p % 4` of word row `p / 4`. -/
theorem bitcast_32_8_getLsbD_ix2 {R r n : ℕ} (y : (⟨2, ![r, n]⟩ : Shape).Idx → BitVec 32)
    (h : (⟨2, ![r, n]⟩ : Shape).Bitcasts 32 ⟨2, ![R, n]⟩ 8) (p : Fin R) (l : Fin n) (q : ℕ) (hq : q < 8) (a : Fin r)
    (ha : a.val = p.val / 4) :
    (bitcast ⟨2, ![R, n]⟩ 8 y h (ValueIdx.ix2 p l)).getLsbD q = (y (ValueIdx.ix2 a l)).getLsbD (8 * (p.val % 4) + q) := by
  rw [bitcast_getLsbD y h _ q hq (by decide)]
  have hr : ((⟨2, ![R, n]⟩ : Shape).row (ValueIdx.ix2 p l) * 8 + q) % 32 = 8 * (p.val % 4) + q := by
    show (p.val * 8 + q) % 32 = _
    omega
  rw [hr]
  congr 2
  funext c
  match c with
  | ⟨0, _⟩ =>
    exact Fin.ext ((h.srcIdx_row _ _ _ ⟨0, Nat.zero_lt_two⟩ rfl).trans
      (by show (p.val * 8 + q) / 32 = a.val; omega))
  | ⟨1, _⟩ => exact Fin.ext (h.srcIdx_other _ _ _ ⟨1, Nat.one_lt_two⟩ (by show ¬ 1 + 2 = 2; omega))

set_option maxRecDepth 16384 in
theorem operand_apply (X : Vec Ideal S1x1x2048x128 .i8) (r : Fin 512) (l : Fin 512) :
    k0_pay1650 (F := Ideal) X (ix2 r l)
      = (((X (ix4 0 0 ⟨4 * l.val + r.val % 4, by omega⟩ ⟨r.val / 4, by omega⟩)).toNat : ℝ) : EReal) := by
  unfold k0_pay1650
  have key : bitcast S512x512 8
        (transpose S128x512 [1, 0]
          (bitcast S512x128 32 (shapeCast S2048x128 X shapeCasts_S1x1x2048x128_S2048x128)
            bitcasts_S2048x128_w8_S512x128_w32)
          transposes_S512x128_p1_0_S128x512)
        bitcasts_S128x512_w32_S512x512_w8 (ix2 r l)
      = X (ix4 0 0 ⟨4 * l.val + r.val % 4, by omega⟩ ⟨r.val / 4, by omega⟩) := by
    apply BitVec.eq_of_getLsbD_eq
    intro i hi
    rw [ix2_eq_valueIdx]
    erw [bitcast_32_8_getLsbD_ix2 _ _ r l i hi ⟨r.val / 4, by omega⟩ rfl]
    rw [← ix2_eq_valueIdx]
    pointwise
    rw [ix2_eq_valueIdx]
    erw [bitcast_8_32_getLsbD_ix2 _ _ l _ _ (by omega) ⟨4 * l.val + r.val % 4, by omega⟩ (by show _ = _; simp; omega)]
    rw [← ix2_eq_valueIdx]
    pointwise
    rw [show (8 * (r.val % 4) + i) % 8 = i by omega]
  dsimp only
  show FloatOps.uitofp .bf16 _ = _
  rw [key]
  rfl

end Cert.KernelIdeal.Val

end
-- ==== Proof.Value.Width.lean ====
/-
  The value of the width pass: block `q` of `t1` holds, in row `4 o + j` and column `l`, the sum over the input columns
  of the weights of output column `o` times the image row `4 (128 q + l) + j`.
-/
module

public import proofs.«01_k».proof.Proof.Value.Bytes
public import Idealize.ShloMosaic.Lib.ValueLayout

@[expose] public section

noncomputable section

namespace Cert.KernelIdeal.Val

open Idealize.ShloMosaic Idealize.ShloMosaic.TcCoe Cert.KernelIdeal.Gen Cert.KernelIdeal

/-- The pixel at row `h` and column `w` of the image in strips of 128 columns. -/
def px (X : ℕ → Vec Ideal S1x1x2048x128 .i8) (h w : ℕ) : EReal :=
  (((X (w / 128) (ix4 0 0 ⟨h % 2048, Nat.mod_lt _ (by decide)⟩ ⟨w % 128, Nat.mod_lt _ (by decide)⟩)).toNat : ℝ) : EReal)

theorem sum_packed (g : ℕ → EReal) (j : ℕ) (hj : j < 4) (n : ℕ) :
    ∑ i ∈ Finset.range (4 * n), (if j = i % 4 then g (i / 4) else 0) = ∑ w ∈ Finset.range n, g w := by
  induction n with
  | zero => simp
  | succ n ih =>
    rw [show 4 * (n + 1) = 4 * n + 1 + 1 + 1 + 1 by ring]
    simp only [Finset.sum_range_succ, ih]
    rw [show (4 * n) % 4 = 0 by omega, show (4 * n + 1) % 4 = 1 by omega, show (4 * n + 1 + 1) % 4 = 2 by omega,
      show (4 * n + 1 + 1 + 1) % 4 = 3 by omega, show 4 * n / 4 = n by omega, show (4 * n + 1) / 4 = n by omega,
      show (4 * n + 1 + 1) / 4 = n by omega, show (4 * n + 1 + 1 + 1) / 4 = n by omega]
    interval_cases j <;> simp

theorem start_step (k : ℕ) (hk : k < 24) : start k ≤ start (k + 1) ∧ start (k + 1) ≤ start k + 20 := by
  interval_cases k <;> decide

variable (X : ℕ → Vec Ideal S1x1x2048x128 .i8) (W : ℕ → Vec Ideal S1x80x256 .bf16) (R : ℕ → ℕ → EReal)

/-- The bands hold the weights `R`, spread over the packed rows. -/
def Bands : Prop :=
  ∀ k, k < 24 → ∀ (a : Fin 80) (b : Fin 256),
    W k (ix3 0 a b) = if a.val % 4 = b.val % 4 then R (start k + a.val / 4) (64 * k + b.val / 4) else 0

/-- The weights `R` vanish outside the bands. -/
structure Banded : Prop where
  before : ∀ k, k + 1 < 24 → ∀ o w, start k + 20 ≤ o → w < 64 * (k + 1) → R o w = 0
  after : ∀ k, k < 24 → ∀ o w, o < start (k + 1) → 64 * (k + 1) ≤ w → w < 1536 → R o w = 0

set_option maxRecDepth 16384 in
theorem prod_apply (hW : Bands W R) (k : ℕ) (hk : k < 24) (a : Fin 80) (l : Fin 512) :
    prod X W k (ix2 a l)
      = ∑ w ∈ Finset.range 64, R (start k + a.val / 4) (64 * k + w) * px X (4 * l.val + a.val % 4) (64 * k + w) := by
  unfold prod
  pointwise
  have e : ∀ x : Fin 256, W k (ix3 0 a x) * k0_pay1650 (X (k / 2)) (ix2 ⟨256 * (k % 2) + x.val, by omega⟩ l)
      = (fun i => if a.val % 4 = i % 4 then
          (fun w => R (start k + a.val / 4) (64 * k + w) * px X (4 * l.val + a.val % 4) (64 * k + w)) (i / 4) else 0) x.val := by
    intro x
    rw [hW k hk a x, operand_apply]
    dsimp only
    split_ifs with h
    · have hx := x.isLt
      congr 1
      unfold px
      have e1 : (64 * k + x.val / 4) / 128 = k / 2 := by omega
      have e2 : (256 * (k % 2) + x.val) / 4 = (64 * k + x.val / 4) % 128 := by omega
      have e3 : 4 * l.val + (256 * (k % 2) + x.val) % 4 = (4 * l.val + a.val % 4) % 2048 := by omega
      simp only [e1, e2, e3]
    · exact zero_mul _
  rw [Finset.sum_congr rfl fun x _ => e x,
    Fin.sum_univ_eq_sum_range (fun i => if a.val % 4 = i % 4 then
      (fun w => R (start k + a.val / 4) (64 * k + w) * px X (4 * l.val + a.val % 4) (64 * k + w)) (i / 4) else 0) 256,
    show (256 : ℕ) = 4 * 64 by rfl]
  exact sum_packed (fun w => R (start k + a.val / 4) (64 * k + w) * px X (4 * l.val + a.val % 4) (64 * k + w)) _ (by omega) 64

set_option maxRecDepth 16384 in
theorem tile_apply (hW : Bands W R) (hR : Banded R) (k : ℕ) (hk : k < 24) (a : Fin 80) (l : Fin 512) :
    tile X W k (ix2 a l)
      = ∑ w ∈ Finset.range (64 * (k + 1)), R (start k + a.val / 4) w * px X (4 * l.val + a.val % 4) w := by
  induction k generalizing a with
  | zero =>
    unfold tile
    rw [prod_apply X W R hW 0 (by decide)]
    simp
  | succ k ih =>
    unfold tile
    pointwise
    obtain ⟨s1, s2⟩ := start_step k (by omega)
    have hd : done k = 4 * (start (k + 1) - start k) := rfl
    have ha := a.isLt
    rw [show 64 * (k + 1 + 1) = 64 * (k + 1) + 64 by ring, Finset.sum_range_add]
    by_cases h : a.val < 80 - done k
    · rw [dif_pos h, prod_apply X W R hW (k + 1) hk, ih (by omega), add_comm]
      congr 1
      refine Finset.sum_congr rfl fun w _ => ?_
      rw [show start k + (done k + a.val) / 4 = start (k + 1) + a.val / 4 by omega,
        show (done k + a.val) % 4 = a.val % 4 by omega]
    · rw [dif_neg h, prod_apply X W R hW (k + 1) hk, Finset.sum_eq_zero (s := Finset.range (64 * (k + 1))), zero_add]
      · refine Finset.sum_congr rfl fun w _ => ?_
        simp only [show 80 - done k + (a.val - (80 - done k)) = a.val by omega]
      · intro w hw
        rw [hR.before k hk _ w (by omega) (Finset.mem_range.1 hw), zero_mul]

set_option maxRecDepth 16384 in
theorem stored_apply (k : ℕ) (q : Fin 4) (a : Fin (done k)) (l : Fin 128) :
    stored X W k q (ix3 0 a l)
      = tile X W k (ix2 ⟨a.val, by have := done_le k; omega⟩ ⟨128 * q.val + l.val, by omega⟩) := by
  unfold stored
  rw [ix3_eq_valueIdx]
  erw [ValueIdx.shapeCast_ab_1ab_apply]
  rw [← ix2_eq_valueIdx]
  pointwise

/-- The value of the width pass in `t1`, by block, row and column. -/
def passed (q r l : ℕ) : EReal :=
  ∑ w ∈ Finset.range 1536, R (r / 4) w * px X (4 * (128 * q + l) + r % 4) w

theorem stored_eq (hW : Bands W R) (hR : Banded R) (k : ℕ) (hk : k < 24) (q : Fin 4) (a : Fin (done k)) (l : Fin 128) :
    stored X W k q (ix3 0 a l) = passed X R q.val (4 * start k + a.val) l.val := by
  obtain ⟨s1, s2⟩ := start_step k hk
  have hd : done k = 4 * (start (k + 1) - start k) := rfl
  have ha := a.isLt
  rw [stored_apply, tile_apply X W R hW hR k hk]
  unfold passed
  rw [show (1536 : ℕ) = 64 * (k + 1) + (1536 - 64 * (k + 1)) by omega, Finset.sum_range_add]
  rw [Finset.sum_eq_zero (s := Finset.range (1536 - 64 * (k + 1))), add_zero]
  · refine Finset.sum_congr rfl fun w _ => ?_
    simp only [show (4 * start k + a.val) / 4 = start k + a.val / 4 by omega, show (4 * start k + a.val) % 4 = a.val % 4 by omega]
  · intro w hw
    have := Finset.mem_range.1 hw
    rw [hR.after k hk _ _ (by omega) (by omega) (by omega), zero_mul]

theorem pieces_mem (p : View.Piece (Elt Ideal) S4x1600x128 .f32) (n : ℕ) :
    p ∈ pieces X W n ↔ ∃ k, k < n ∧ ∃ q : Fin 4, p = piece X W k q := by
  induction n with
  | zero => simp [pieces]
  | succ n ih =>
    simp only [pieces, List.mem_cons, ih]
    constructor
    · rintro (h | h | h | h | ⟨k, hk, q, h⟩)
      · exact ⟨n, by omega, 3, h⟩
      · exact ⟨n, by omega, 2, h⟩
      · exact ⟨n, by omega, 1, h⟩
      · exact ⟨n, by omega, 0, h⟩
      · exact ⟨k, by omega, q, h⟩
    · rintro ⟨k, hk, q, h⟩
      rcases Nat.lt_succ_iff_lt_or_eq.1 hk with h1 | h1
      · exact .inr (.inr (.inr (.inr ⟨k, h1, q, h⟩)))
      · subst h1
        match q with
        | 0 => exact .inr (.inr (.inr (.inl h)))
        | 1 => exact .inr (.inr (.inl h))
        | 2 => exact .inr (.inl h)
        | 3 => exact .inl h

theorem start_find (n o : ℕ) (h : o < start n) : ∃ k, k < n ∧ start k ≤ o ∧ o < start (k + 1) := by
  induction n with
  | zero => exact absurd h (by simp [start])
  | succ n ih =>
    by_cases h' : o < start n
    · obtain ⟨k, a, b⟩ := ih h'
      exact ⟨k, by omega, b⟩
    · exact ⟨n, by omega, by omega, h⟩

set_option maxRecDepth 16384 in
/-- What `t1` holds after the width pass. -/
theorem t1_read (c : Dev nD) (M7 : Memref sig .tc .vmem S4x1600x128 .f32) (f7 : Bf (F := Ideal) c M7) (hW : Bands W R) (hR : Banded R)
    (q : Fin 4) (r : Fin 1600) (l : Fin 128) (hr : r.val < 1576) :
    M7.view.read (Elt Ideal) (M7.view.writes (Elt Ideal) f7 (pieces X W 24)) (ix3 q r l) = passed X R q.val r.val l.val := by
  rw [View.read_writes_apply_of_pieces M7.view f7 (fun x => passed X R (x 0).val (x 1).val (x 2).val)]
  · rfl
  · intro p hp x
    obtain ⟨k, hk, q, rfl⟩ := (pieces_mem X W p 24).1 hp
    have hx : x = (ix3 0 ⟨(x 1).val, (x 1).isLt⟩ ⟨(x 2).val, (x 2).isLt⟩ : (⟨3, ![1, done k, 128]⟩ : Shape).Idx) := by
      have h0 : (x 0).val < 1 := (x 0).isLt
      funext b
      apply Fin.ext
      match b with
      | 0 => show (x 0).val = 0; omega
      | 1 => rfl
      | 2 => rfl
    have h0 : (x 0).val < 1 := (x 0).isLt
    show stored X W k q x = _
    refine (congrArg (stored X W k q) hx).trans ((stored_eq X W R hW hR k hk q _ _).trans ?_)
    show passed X R q.val (4 * start k + (x 1).val) (x 2).val = passed X R (q.val + 1 * (x 0).val) (4 * start k + 1 * (x 1).val) (0 + 1 * (x 2).val)
    congr 1 <;> omega
  · obtain ⟨k, hk, h1, h2⟩ := start_find 24 (r.val / 4) (by show _ < 394; omega)
    refine ⟨piece X W k q, (pieces_mem X W _ 24).2 ⟨k, hk, q, rfl⟩, ?_⟩
    refine (Rect.mem_set_unit (inb := (by
      intro a
      match a with
      | 0 => show q.val + 1 ≤ 4; omega
      | 1 => exact start_done k
      | 2 => exact Nat.le_refl 128))).2 fun a => ?_
    match a with
    | 0 => show q.val ≤ q.val ∧ q.val < q.val + 1; omega
    | 1 => show 4 * start k ≤ r.val ∧ r.val < 4 * start k + 4 * (start (k + 1) - start k); omega
    | 2 => show 0 ≤ l.val ∧ l.val < 0 + 128; omega

end Cert.KernelIdeal.Val

end
-- ==== Proof.Value.Height.lean ====
/-
  The value of the height pass: a half's product at output column `o` and tile column `l` is the sum over the half's
  image rows of the tile's weight times the width pass's value.
-/
module

public import proofs.«01_k».proof.Proof.Value.Width
public import proofs.«01_k».proof.Proof.Value.HeightModel

@[expose] public section

noncomputable section

namespace Cert.KernelIdeal.Val

open Idealize.ShloMosaic Idealize.ShloMosaic.TcCoe Cert.KernelIdeal.Gen Cert.KernelIdeal

variable (T : ℕ → ℕ → Vec Ideal S1x400x128 .f32) (H : ℕ → Vec Ideal S1x1024x256 .bf16)

set_option maxRecDepth 16384 in
theorem operandH_apply (half : ℕ) (o : Fin 400) (k : Fin 1024) :
    operandH T half (ix2 o k) = T (k.val / 256) (2 * half + k.val / 128 % 2) (ix3 0 o ⟨k.val % 128, by omega⟩) := by
  unfold operandH
  refine (concatenate_ofFn_apply (t := S400x1024) (s₁ := S400x128) 1 (fun n : Fin 8 =>
      (truncf .bf16 (shapeCast S400x128 (T (n.val / 2) (2 * half + n.val % 2)) shapeCasts_S1x400x128_S400x128 : FVec Ideal S400x128 .f32)
        bitsLt_bf16_f32)) _ rfl 128 rfl (ix2 o k) ⟨k.val / 128, by omega⟩ rfl
    (ix2 o ⟨k.val % 128, by omega⟩) rfl (by
      intro b hb
      match b with
      | 0 => rfl
      | 1 => exact absurd rfl hb)).trans ?_
  pointwise
  rw [show k.val / 128 / 2 = k.val / 256 by omega]

/-- A sum over packed rows as a sum over image rows. -/
theorem sum_rows (f : ℕ → EReal) (n : ℕ) :
    ∑ j ∈ Finset.range 4, ∑ i ∈ Finset.range n, f (4 * i + j) = ∑ h ∈ Finset.range (4 * n), f h := by
  induction n with
  | zero => simp
  | succ n ih =>
    rw [show 4 * (n + 1) = 4 * n + 1 + 1 + 1 + 1 by ring]
    simp only [Finset.sum_range_succ, Finset.sum_range_zero, zero_add] at ih ⊢
    rw [← ih]
    simp only [add_zero, add_assoc, add_comm, add_left_comm]
    simp only [zero_add]

set_option maxRecDepth 16384 in
theorem accH_apply (half : ℕ) (y : ℕ → ℕ → EReal) (rh : ℕ → ℕ → EReal)
    (hT : ∀ j q, j < 4 → q < 4 → ∀ (o : Fin 400) (l : Fin 128), o.val < 394 → T j q (ix3 0 o l) = y o.val (4 * (128 * q + l.val) + j))
    (hh : half < 2)
    (hH : ∀ (a : Fin 1024) (b : Fin 256), H half (ix3 0 a b) = rh b.val (1024 * half + 4 * (a.val % 256) + a.val / 256))
    (o : Fin 400) (ho : o.val < 394) (l : Fin 256) :
    accH T H half (ix2 o l)
      = ∑ h ∈ Finset.range 1024, rh l.val (1024 * half + h) * y o.val (1024 * half + h) := by
  unfold accH
  pointwise
  have e : ∀ x : Fin 1024, operandH T half (ix2 o x) * H half (ix3 0 x l)
      = (fun i => (fun h => rh l.val (1024 * half + h) * y o.val (1024 * half + h)) (4 * (i % 256) + i / 256)) x.val := by
    intro x
    have hx := x.isLt
    rw [operandH_apply, hT _ _ (by omega) (by omega) _ _ ho, hH, mul_comm]
    dsimp only
    rw [show 4 * (128 * (2 * half + x.val / 128 % 2) + x.val % 128) + x.val / 256 = 1024 * half + (4 * (x.val % 256) + x.val / 256) by omega,
      ← Nat.add_assoc]
  rw [Finset.sum_congr rfl fun x _ => e x, Fin.sum_univ_eq_sum_range (fun i =>
    (fun h => rh l.val (1024 * half + h) * y o.val (1024 * half + h)) (4 * (i % 256) + i / 256)) 1024,
    show (1024 : ℕ) = 256 + 256 + 256 + 256 by rfl, Finset.sum_range_add, Finset.sum_range_add, Finset.sum_range_add,
    show (256 + 256 + 256 + 256 : ℕ) = 4 * 256 by rfl, ← sum_rows]
  simp only [Finset.sum_range_succ (n := 3), Finset.sum_range_succ (n := 2), Finset.sum_range_succ (n := 1),
    Finset.sum_range_succ (n := 0), Finset.sum_range_zero, zero_add]
  refine congrArg₂ _ (congrArg₂ _ (congrArg₂ _ ?_ ?_) ?_) ?_
  all_goals
    refine Finset.sum_congr rfl fun i hi => ?_
    have := Finset.mem_range.1 hi
    congr 2 <;> omega

end Cert.KernelIdeal.Val

end
-- ==== Proof.Value.HostValue.lean ====
/-
  The values of the host's weights.
-/
module

public import proofs.«01_k».proof.Proof.Value.HostModel
public import proofs.«01_k».proof.Proof.Value.Filter
public import proofs.«01_k».proof.Proof.Value.Height
public import Idealize.ShloMosaic.Lib.Routing.Ops

@[expose] public section

noncomputable section

namespace Cert.KernelIdeal.Val

open Idealize.ShloMosaic Idealize.ShloMosaic.TcCoe Cert.KernelIdeal.Gen Cert.KernelIdeal Cert.Val

set_option maxRecDepth 16384

theorem triW_apply (o : Fin 392) (j : Fin 1536) : (triW (F := Ideal)) (ix2 o j) = ((tri 1536 o.val j.val : ℝ) : EReal) := by
  unfold triW ratioW
  pointwise
  exact filter_scalar 1536 o.val j.val (by decide) (by omega) (by omega) _ _ ratio_width rfl

theorem triH_apply (o : Fin 392) (j : Fin 2048) : (triH (F := Ideal)) (ix2 o j) = ((tri 2048 o.val j.val : ℝ) : EReal) := by
  unfold triH ratioH
  pointwise
  exact filter_scalar 2048 o.val j.val (by decide) (by omega) (by omega) _ _ ratio_height rfl

theorem weightsW_apply (o : Fin 400) (j : Fin 1536) : (weightsW (F := Ideal)) (ix2 o j) = ((wt 1536 o.val j.val : ℝ) : EReal) := by
  unfold weightsW
  pointwise
  by_cases h : o.val < 392
  · rw [dif_pos h]
    simp only [triW_apply]
    exact weight_scalar 1536 o.val j.val (by decide) h
  · rw [dif_neg h]
    refine (sitofp_nat _ 0 (by decide)).trans ?_
    unfold wt
    rw [if_neg h, Nat.cast_zero]

theorem weightsH_apply (o : Fin 400) (j : Fin 2048) : (weightsH (F := Ideal)) (ix2 o j) = ((wt 2048 o.val j.val : ℝ) : EReal) := by
  unfold weightsH
  pointwise
  by_cases h : o.val < 392
  · rw [dif_pos h]
    simp only [triH_apply]
    exact weight_scalar 2048 o.val j.val (by decide) h
  · rw [dif_neg h]
    refine (sitofp_nat _ 0 (by decide)).trans ?_
    unfold wt
    rw [if_neg h, Nat.cast_zero]

/-- The weight as a value of the kernel. -/
def wW (o w : ℕ) : EReal := ((wt 1536 o w : ℝ) : EReal)

theorem bandW_apply (k : ℕ) (hk : k < 24) (a : Fin 20) (b : Fin 64) :
    (bandW k : FVec Ideal S1x20x64 .bf16) (ix3 0 a b) = wW (start k + a.val) (64 * k + b.val) := by
  unfold bandW
  pointwise
  simp only [Nat.mod_eq_of_lt hk]
  rw [weightsW_apply]
  unfold wW
  simp only [Nat.add_comm]

theorem bandsW_apply (k : Fin 24) (a : Fin 20) (b : Fin 64) :
    (bandsW : FVec Ideal S24x20x64 .bf16) (ix3 k a b) = wW (start k.val + a.val) (64 * k.val + b.val) := by
  unfold bandsW
  have hk := k.isLt
  by_cases h : k.val < 16
  · refine (concatenate_pair_apply_left (t := S24x20x64) (s₁ := S16x20x64) (s₂ := S8x20x64) 0 _ _ _ (ix3 k a b) rfl (ix3 ⟨k.val, h⟩ a b)
      (by intro x; match x with | 0 => rfl | 1 => rfl | 2 => rfl)).trans ?_
    refine (concatenate_ofFn_apply (t := S16x20x64) (s₁ := S1x20x64) 0 (fun n : Fin 16 => (bandW n.val : FVec Ideal S1x20x64 .bf16)) _ rfl 1 rfl
      (ix3 ⟨k.val, h⟩ a b) ⟨k.val, h⟩ (by exact (Nat.div_one _)) (ix3 0 a b) (by exact (Nat.mod_one _).symm)
      (by intro x hx; match x with | 0 => exact absurd rfl hx | 1 => rfl | 2 => rfl)).trans ?_
    exact bandW_apply k.val hk a b
  · refine (concatenate_pair_apply_right (t := S24x20x64) (s₁ := S16x20x64) (s₂ := S8x20x64) 0 _ _ _ (ix3 k a b) rfl rfl
      (ix3 ⟨k.val - 16, by omega⟩ a b) (by intro x hx; match x with | 0 => exact absurd rfl hx | 1 => rfl | 2 => rfl)
      (by show k.val - 16 + 16 = k.val; omega)).trans ?_
    refine (concatenate_ofFn_apply (t := S8x20x64) (s₁ := S1x20x64) 0 (fun n : Fin 8 => (bandW (16 + n.val) : FVec Ideal S1x20x64 .bf16)) _ rfl 1 rfl
      (ix3 ⟨k.val - 16, by omega⟩ a b) ⟨k.val - 16, by omega⟩ (by exact (Nat.div_one _)) (ix3 0 a b) (by exact (Nat.mod_one _).symm)
      (by intro x hx; match x with | 0 => exact absurd rfl hx | 1 => rfl | 2 => rfl)).trans ?_
    refine (bandW_apply (16 + (k.val - 16)) (by omega) a b).trans ?_
    rw [show 16 + (k.val - 16) = k.val by omega]

theorem select_eq {α : Type} (x y : ℕ) (hx : x < 2 ^ 32) (hy : y < 2 ^ 32) (p q : α) :
    Scalar.select (IntOp.cmpi .eq (BitVec.ofNat 32 x) (BitVec.ofNat 32 y)) p q = if x = y then p else q := by
  have e : BitVec.ofNat 32 x = BitVec.ofNat 32 y ↔ x = y := by
    constructor
    · intro h
      have := congrArg BitVec.toNat h
      simp only [BitVec.toNat_ofNat] at this
      omega
    · intro h; rw [h]
  by_cases h : x = y
  · rw [if_pos h, h]; simp [Scalar.select, IntOp.cmpi]
  · have hb : (BitVec.ofNat 32 x == BitVec.ofNat 32 y) = false := beq_eq_false_iff_ne.2 fun h' => h (e.1 h')
    rw [if_neg h]
    simp only [Scalar.select, IntOp.cmpi, hb]
    rfl

theorem tilesW_apply (k : Fin 24) (a : Fin 80) (b : Fin 256) :
    (tilesW (F := Ideal)) (ix3 k a b)
      = if a.val % 4 = b.val % 4 then wW (start k.val + a.val / 4) (64 * k.val + b.val / 4) else 0 := by
  unfold tilesW spreadW samePack
  pointwise
  rw [bandsW_apply]
  refine (select_eq (a.val % 4) (b.val % 4) (by omega) (by omega) _ _).trans ?_
  rfl

/-- The output row of column `b` of height tile `half`. -/
def rowOf (half : ℕ) (b : Fin 256) : ℕ := if half = 0 then (lit0 b).toNat else (lit1 b).toNat

set_option maxHeartbeats 4000000 in
theorem rowOf_lt (half : ℕ) (b : Fin 256) : rowOf half b < 400 := by
  unfold rowOf
  split_ifs
  · revert b; decide +kernel
  · revert b; decide +kernel

/-- The height weight as a value of the kernel. -/
def wH (o h : ℕ) : EReal := ((wt 2048 o h : ℝ) : EReal)

theorem gathered_apply (half : ℕ) (o : ℕ) (h : S400x2048.Slices ![0, o] S400x1024) (rows : IVec S256 32)
    (hrows : ∀ b : Fin 256, rows (ix1 b) = BitVec.ofNat 32 (rowOf half b)) (a : Fin 1024) (b : Fin 256) (ho : o + 1024 ≤ 2048) :
    (gatheredH o h rows : FVec Ideal S1x1024x256 .bf16) (ix3 0 a b) = wH (rowOf half b) (o + 4 * (a.val % 256) + a.val / 256) := by
  unfold gatheredH
  pointwise
  have ha := a.isLt
  refine (Routing.gather_row _ rfl rfl rfl rfl rfl _ _ _ _ ⟨rowOf half b, rowOf_lt half b⟩ ?_ (by decide)).trans ?_
  · pointwise
    exact hrows b
  · pointwise
    rw [weightsH_apply]
    unfold wH
    dsimp only
    rw [show o + (a.val % 256 * 4 + a.val / 256) = o + 4 * (a.val % 256) + a.val / 256 by omega]

set_option maxHeartbeats 4000000 in
theorem tilesH_apply (k : Fin 2) (a : Fin 1024) (b : Fin 256) :
    (tilesH (F := Ideal)) (ix3 k a b) = wH (rowOf k.val b) (1024 * k.val + 4 * (a.val % 256) + a.val / 256) := by
  unfold tilesH
  match k with
  | 0 =>
    refine (concatenate_pair_apply_left (t := S2x1024x256) (s₁ := S1x1024x256) (s₂ := S1x1024x256) 0 _ _ _ (ix3 0 a b) rfl (ix3 0 a b)
      (by intro x; match x with | 0 => rfl | 1 => rfl | 2 => rfl)).trans ?_
    refine (gathered_apply 0 0 _ _ ?_ a b (by decide)).trans rfl
    intro b
    show lit0 (S256.rowMajor (ix1 b)) = _
    revert b; decide +kernel
  | 1 =>
    refine (concatenate_pair_apply_right (t := S2x1024x256) (s₁ := S1x1024x256) (s₂ := S1x1024x256) 0 _ _ _ (ix3 1 a b) rfl rfl
      (ix3 0 a b) (by intro x hx; match x with | 0 => exact absurd rfl hx | 1 => rfl | 2 => rfl) rfl).trans ?_
    refine (gathered_apply 1 1024 _ _ ?_ a b (by decide)).trans rfl
    intro b
    show lit1 (S256.rowMajor (ix1 b)) = _
    revert b; decide +kernel

/-- The weights vanish outside the bands. -/
theorem banded : Banded wW := by
  constructor
  · intro k hk o w ho hw
    unfold wW
    rw [wt_eq_zero 1536 o w (by decide) (.inl ?_), EReal.coe_zero]
    have : k < 23 := by omega
    interval_cases k <;> norm_num [start] at ho <;> omega
  · intro k hk o w ho hw hw'
    unfold wW
    rw [wt_eq_zero 1536 o w (by decide) (.inr ?_), EReal.coe_zero]
    interval_cases k <;> norm_num [start] at ho <;> omega

end Cert.KernelIdeal.Val

end
-- ==== Proof.Value.Stored.lean ====
/-
  The values of the scratch `v` after the first half of the body: the normalised resized image, in the rows and lanes
  that hold one.
-/
module

public import proofs.«01_k».proof.Proof.Value.StoreModel
public import proofs.«01_k».proof.Proof.Value.HostValue

@[expose] public section

noncomputable section

namespace Cert.Val

/-- Output row `y`, column `o` of the resized image. -/
def rowSum (p : ℕ → ℕ → ℕ) (o h : ℕ) : ℝ := ∑ w ∈ Finset.range 1536, wt 1536 o w * (p h w : ℝ)

def resized (p : ℕ → ℕ → ℕ) (y o : ℕ) : ℝ := ∑ h ∈ Finset.range 2048, wt 2048 y h * rowSum p o h

/-- The part of output row `y` that one half of the input rows contributes. -/
def halfSum (p : ℕ → ℕ → ℕ) (half y o : ℕ) : ℝ :=
  ∑ h ∈ Finset.range 1024, wt 2048 y (1024 * half + h) * rowSum p o (1024 * half + h)

theorem resized_eq (p : ℕ → ℕ → ℕ) (y o : ℕ) : resized p y o = halfSum p 0 y o + halfSum p 1 y o := by
  unfold resized halfSum
  rw [show (2048 : ℕ) = 1024 + 1024 by rfl, Finset.sum_range_add]
  simp

theorem halfSum_low (p : ℕ → ℕ → ℕ) (y o : ℕ) (hy : y ≤ 194) : halfSum p 1 y o = 0 :=
  Finset.sum_eq_zero fun h _ => by rw [wt_eq_zero _ _ _ (by decide) (.inr (by omega)), zero_mul]

theorem halfSum_high (p : ℕ → ℕ → ℕ) (y o : ℕ) (hy : 197 ≤ y) : halfSum p 0 y o = 0 :=
  Finset.sum_eq_zero fun h hh => by
    have := Finset.mem_range.1 hh
    rw [wt_eq_zero _ _ _ (by decide) (.inl (by omega)), zero_mul]

/-- The mean and the deviation of a channel. -/
def mean (c : ℕ) : ℝ := if c = 0 then 24072733 / 50000000 else if c = 1 then 183131 / 400000 else 40821073 / 100000000
def dev (c : ℕ) : ℝ := if c = 0 then 13431477 / 50000000 else if c = 1 then 13065129 / 50000000 else 27577711 / 100000000

/-- The normalised resized image of channel `c`. -/
def normed (c : ℕ) (p : ℕ → ℕ → ℕ) (y o : ℕ) : ℝ := (resized p y o / 255 - mean c) / dev c

/-- The output row that quarter `q` keeps in lane `l`, and whether it keeps one. -/
def slotRow (q l : ℕ) : ℕ := if q < 2 then l % 16 else if l % 16 = 14 then 14 else 15 + l % 16
def rowAt (q l : ℕ) : ℕ := 14 * slotRow q l + 7 * (q % 2) + l / 16 % 7
def kept (q l : ℕ) : Bool := if q < 2 then l % 16 ≤ 13 else l % 16 ≤ 12 ∨ l % 16 = 14

end Cert.Val

namespace Cert.KernelIdeal.Val

open Idealize.ShloMosaic Idealize.ShloMosaic.TcCoe Cert.KernelIdeal.Gen Cert.KernelIdeal Cert.Val

set_option maxRecDepth 16384

theorem row_low (q : Fin 2) (l : Fin 128) (h : kept q.val l.val = true) :
    rowOf 0 ⟨128 * q.val + l.val, by omega⟩ = rowAt q.val l.val := by
  revert q l; decide +kernel

theorem row_high (q : Fin 2) (l : Fin 128) (h : kept (2 + q.val) l.val = true) :
    rowOf 1 ⟨128 * q.val + l.val, by omega⟩ = rowAt (2 + q.val) l.val := by
  revert q l; decide +kernel

theorem row_195 : rowOf 0 ⟨237, by decide⟩ = 195 ∧ rowOf 1 ⟨237, by decide⟩ = 195 := by decide +kernel
theorem row_196 : rowOf 0 ⟨14, by decide⟩ = 196 ∧ rowOf 0 ⟨126, by decide⟩ = 196 := by decide +kernel

theorem rows_0 (l : Fin 128) (h : kept 0 l.val = true) : rowAt 0 l.val ≤ 194 := by revert l; decide +kernel
theorem rows_1 (l : Fin 128) (h : kept 1 l.val = true) : l.val = 109 ∨ rowAt 1 l.val ≤ 194 := by revert l; decide +kernel
theorem rows_2 (l : Fin 128) (h : kept 2 l.val = true) : (l.val = 14 ∨ l.val = 126) ∨ 197 ≤ rowAt 2 l.val := by revert l; decide +kernel
theorem rows_3 (l : Fin 128) (h : kept 3 l.val = true) : 197 ≤ rowAt 3 l.val := by revert l; decide +kernel

/-! ## The two named constants of a channel -/

theorem channel_mul (i : grid0.Coords) : (k0_pay1648 i : Ideal .f32) = ((1 / (255 * dev (i 1).val) : ℝ) : EReal) := by
  have e0 : (Named.named (F := Ideal) κ "inv_std0" 0x3C6F2E3D#32 : Ideal .f32) = ((10000000 / 685005327 : ℝ) : EReal) :=
    IdealRules.named_const.ideal_named_scalar _ _ _ _ rfl
  have e1 : (Named.named (F := Ideal) κ "inv_std1" 0x3C75E325#32 : Ideal .f32) = ((10000000 / 666321579 : ℝ) : EReal) :=
    IdealRules.named_const.ideal_named_scalar _ _ _ _ rfl
  have e2 : (Named.named (F := Ideal) κ "inv_std2" 0x3C68FB47#32 : Ideal .f32) = ((20000000 / 1406463261 : ℝ) : EReal) :=
    IdealRules.named_const.ideal_named_scalar _ _ _ _ rfl
  unfold k0_pay1648 dev
  dsimp only
  rw [e0, e1, e2]
  generalize hk : i 1 = k
  match k with
  | ⟨0, _⟩ => show ((10000000 / 685005327 : ℝ) : EReal) = _; congr 1; norm_num
  | ⟨1, _⟩ => show ((10000000 / 666321579 : ℝ) : EReal) = _; congr 1; norm_num
  | ⟨2, _⟩ => show ((20000000 / 1406463261 : ℝ) : EReal) = _; congr 1; norm_num
  | ⟨n + 3, h⟩ => exact absurd h (by show ¬ n + 3 < 3; omega)

theorem channel_sub (i : grid0.Coords) : (k0_pay1649 i : Ideal .f32) = ((mean (i 1).val / dev (i 1).val : ℝ) : EReal) := by
  have e0 : (Named.named (F := Ideal) κ "mean_std0" 0x3FE568DC#32 : Ideal .f32) = ((24072733 / 13431477 : ℝ) : EReal) :=
    IdealRules.named_const.ideal_named_scalar _ _ _ _ rfl
  have e1 : (Named.named (F := Ideal) κ "mean_std1" 0x3FE044B8#32 : Ideal .f32) = ((22891375 / 13065129 : ℝ) : EReal) :=
    IdealRules.named_const.ideal_named_scalar _ _ _ _ rfl
  have e2 : (Named.named (F := Ideal) κ "mean_std2" 0x3FBD77D7#32 : Ideal .f32) = ((40821073 / 27577711 : ℝ) : EReal) :=
    IdealRules.named_const.ideal_named_scalar _ _ _ _ rfl
  unfold k0_pay1649 mean dev
  dsimp only
  rw [e0, e1, e2]
  generalize hk : i 1 = k
  match k with
  | ⟨0, _⟩ => show ((24072733 / 13431477 : ℝ) : EReal) = _; congr 1; norm_num
  | ⟨1, _⟩ => show ((22891375 / 13065129 : ℝ) : EReal) = _; congr 1; norm_num
  | ⟨2, _⟩ => show ((40821073 / 27577711 : ℝ) : EReal) = _; congr 1; norm_num
  | ⟨n + 3, h⟩ => exact absurd h (by show ¬ n + 3 < 3; omega)

/-! ## The accumulators -/

/-- The pixels of an image block. -/
def pixel (Y : Vec Ideal S1x1x2048x1536 .i8) (h w : ℕ) : ℕ :=
  (Y (ix4 0 0 ⟨h % 2048, Nat.mod_lt _ (by decide)⟩ ⟨w % 1536, Nat.mod_lt _ (by decide)⟩)).toNat

section
variable (c : Dev nD) (M2 : Memref sig .tc .vmem S1x1x2048x1536 .i8) (M3 : Memref sig .tc .vmem S24x80x256 .bf16)
  (M4 : Memref sig .tc .vmem S2x1024x256 .bf16) (M7 : Memref sig .tc .vmem S4x1600x128 .f32)
  (f2 : Bf (F := Ideal) c M2) (f3 : Bf (F := Ideal) c M3) (f4 : Bf (F := Ideal) c M4) (f7 : Bf (F := Ideal) c M7)

theorem px_strip (h w : ℕ) (hw : w < 1536) :
    px (strip c M2 f2) h w = ((pixel (M2.view.read (Elt Ideal) f2) h w : ℝ) : EReal) := by
  unfold px pixel strip
  have e : ∀ x y : (S1x1x2048x1536).Idx, x = y → (M2.view.read (Elt Ideal) f2 x).toNat = (M2.view.read (Elt Ideal) f2 y).toNat :=
    fun x y h => by rw [h]
  have e' := e ((Rect.unit (s := S1x1x2048x1536) ![0, 0, 0, 128 * (w / 128 % 12)] S1x1x2048x128.size (by
    intro a
    match a with
    | 0 => exact Nat.le_refl 1
    | 1 => exact Nat.le_refl 1
    | 2 => exact Nat.le_refl 2048
    | 3 => show 128 * (w / 128 % 12) + 128 ≤ 1536; omega)).toLoadRect.idx
      (ix4 0 0 ⟨h % 2048, Nat.mod_lt _ (by decide)⟩ ⟨w % 128, Nat.mod_lt _ (by decide)⟩))
    (ix4 0 0 ⟨h % 2048, Nat.mod_lt _ (by decide)⟩ ⟨w % 1536, Nat.mod_lt _ (by decide)⟩) (by
      funext a
      apply Fin.ext
      match a with
      | 0 => rfl
      | 1 => rfl
      | 2 => show 0 + 1 * (h % 2048) = h % 2048; omega
      | 3 => show 128 * (w / 128 % 12) + 1 * (w % 128) = w % 1536; omega)
  exact congrArg (fun n : ℕ => ((n : ℝ) : EReal)) e'

theorem bands_band (hf : M3.view.read (Elt Ideal) f3 = (tilesW : FVec Ideal S24x80x256 .bf16)) : Bands (band c M3 f3) wW := by
  intro k hk a b
  unfold band
  rw [← tilesW_apply ⟨k, hk⟩ a b, ← hf]
  refine congrArg (M3.view.read (Elt Ideal) f3) ?_
  funext x
  apply Fin.ext
  match x with
  | 0 => show k % 24 + 1 * 0 = k; omega
  | 1 => show 0 + 1 * a.val = a.val; omega
  | 2 => show 0 + 1 * b.val = b.val; omega

theorem acc_apply (h3 : M3.view.read (Elt Ideal) f3 = (tilesW : FVec Ideal S24x80x256 .bf16)) (h4 : M4.view.read (Elt Ideal) f4 = (tilesH : FVec Ideal S2x1024x256 .bf16)) (half : ℕ) (hh : half < 2)
    (o : Fin 400) (ho : o.val < 394) (l : Fin 256) :
    acc c M2 M3 M4 M7 f2 f3 f4 f7 half (ix2 o l)
      = ((halfSum (pixel (M2.view.read (Elt Ideal) f2)) half (rowOf half l) o.val : ℝ) : EReal) := by
  unfold acc
  refine (accH_apply _ _ half (fun o h => ((rowSum (pixel (M2.view.read (Elt Ideal) f2)) o h : ℝ) : EReal))
    (fun b h => if hb : b < 256 then wH (rowOf half ⟨b, hb⟩) h else 0) ?_ hh ?_ o ho l).trans ?_
  · intro j q hj hq o l ho
    have e := t1_read (strip c M2 f2) (band c M3 f3) wW c M7 f7 (bands_band c M3 f3 h3) banded ⟨q, hq⟩ ⟨4 * o.val + j, by omega⟩ l
      (by show 4 * o.val + j < 1576; omega)
    refine Eq.trans ?_ (e.trans ?_)
    · unfold packedRow
      refine congrArg (M7.view.read (Elt Ideal) _) ?_
      funext x
      apply Fin.ext
      match x with
      | 0 => show q % 4 + 1 * 0 = q; omega
      | 1 => show j % 4 + 4 * o.val = 4 * o.val + j; omega
      | 2 => show 0 + 1 * l.val = l.val; omega
    · unfold passed rowSum
      rw [← coe_sum]
      refine Finset.sum_congr rfl fun w hw => ?_
      have hw := Finset.mem_range.1 hw
      rw [px_strip _ _ _ _ _ hw, EReal.coe_mul]
      unfold wW
      dsimp only
      rw [show (4 * o.val + j) / 4 = o.val by omega, show (4 * o.val + j) % 4 = j by omega]
  · intro a b
    rw [dif_pos b.isLt]
    refine Eq.trans ?_ ((congrFun h4 (ix3 ⟨half, hh⟩ a b)).trans (tilesH_apply ⟨half, hh⟩ a b))
    unfold tileH
    refine congrArg (M4.view.read (Elt Ideal) f4) ?_
    funext x
    apply Fin.ext
    match x with
    | 0 => show half % 2 + 1 * 0 = half; omega
    | 1 => show 0 + 1 * a.val = a.val; omega
    | 2 => show 0 + 1 * b.val = b.val; omega
  · unfold halfSum
    rw [← coe_sum]
    refine Finset.sum_congr rfl fun h _ => ?_
    rw [dif_pos l.isLt, EReal.coe_mul]
    rfl

end

/-! ## The quarters -/

theorem laneIs_apply (n : ℕ) (o : Fin 400) (l : Fin 128) (x y : FVec Ideal S400x128 .f32) (hn : n < 2 ^ 32) :
    select (laneIs n) x y (ix2 o l) = if l.val = n then x (ix2 o l) else y (ix2 o l) := by
  unfold laneIs lanes
  pointwise
  exact select_eq l.val n (by omega) hn _ _

theorem laneOr_apply (n n' : ℕ) (o : Fin 400) (l : Fin 128) (x y : FVec Ideal S400x128 .f32) (hn : n < 2 ^ 32) (hn' : n' < 2 ^ 32) :
    select (ori (laneIs n) (laneIs n')) x y (ix2 o l) = if l.val = n ∨ l.val = n' then x (ix2 o l) else y (ix2 o l) := by
  have e : select (ori (laneIs n) (laneIs n')) x y (ix2 o l) = select (laneIs n) x (select (laneIs n') x y) (ix2 o l) := by
    show Scalar.select (laneIs n (ix2 o l) ||| laneIs n' (ix2 o l)) _ _ = Scalar.select (laneIs n (ix2 o l)) _ (Scalar.select (laneIs n' (ix2 o l)) _ _)
    generalize laneIs n (ix2 o l) = p
    generalize laneIs n' (ix2 o l) = q
    have hb : ∀ p : BitVec 1, p = 0#1 ∨ p = 1#1 := by decide
    rcases hb p with rfl | rfl <;> rcases hb q with rfl | rfl <;> rfl
  rw [e, laneIs_apply n o l _ _ hn, laneIs_apply n' o l _ _ hn']
  split_ifs <;> simp_all

variable (p : ℕ → ℕ → ℕ) (A₀ A₁ : FVec Ideal S400x256 .f32)
  (h₀ : ∀ (o : Fin 400), o.val < 394 → ∀ l : Fin 256, A₀ (ix2 o l) = ((halfSum p 0 (rowOf 0 l) o.val : ℝ) : EReal))
  (h₁ : ∀ (o : Fin 400), o.val < 394 → ∀ l : Fin 256, A₁ (ix2 o l) = ((halfSum p 1 (rowOf 1 l) o.val : ℝ) : EReal))
include h₀ h₁

theorem quarter_apply (q : ℕ) (hq : q < 4) (o : Fin 400) (ho : o.val < 394) (l : Fin 128) (hk : kept q l.val = true) :
    quarter A₀ A₁ q (ix2 o l) = ((resized p (rowAt q l.val) o.val : ℝ) : EReal) := by
  rw [resized_eq]
  match q, hq with
  | 0, _ =>
    unfold quarter
    pointwise
    refine (h₀ o ho ⟨l.val, by omega⟩).trans ?_
    have e := row_low 0 l hk
    have e' : (⟨l.val, by omega⟩ : Fin 256) = ⟨128 * (0 : Fin 2).val + l.val, by show 128 * 0 + l.val < 256; omega⟩ := Fin.ext (by show l.val = 128 * 0 + l.val; omega)
    rw [e', e]
    rw [halfSum_low p _ _ (rows_0 l hk), add_zero]
    rfl
  | 1, _ =>
    have e := row_low 1 l hk
    have a0 : A₀ (ix2 o ⟨128 + l.val, by omega⟩) = _ := h₀ o ho ⟨128 + l.val, by omega⟩
    rw [show rowOf 0 ⟨128 + l.val, by omega⟩ = rowAt 1 l.val from e] at a0
    show quarter A₀ A₁ 1 (ix2 o l) = _
    refine (show quarter A₀ A₁ 1 (ix2 o l) = A₀ (ix2 o ⟨128 + l.val, by omega⟩) + select (laneIs 109)
      (extractStridedSlice S400x128 ![0, 128] A₁ slices_S400x256_o0_128_S400x128) zeros (ix2 o l) from ?_).trans ?_
    · unfold quarter; pointwise
    · rw [a0, laneIs_apply 109 o l _ _ (by decide)]
      split_ifs with h
      · rw [EReal.coe_add]
        congr 1
        pointwise
        refine (h₁ o ho ⟨128 + l.val, by omega⟩).trans ?_
        have e1 : (⟨128 + l.val, by omega⟩ : Fin 256) = ⟨237, by decide⟩ := Fin.ext (by show 128 + l.val = 237; omega)
        rw [e1, row_195.2, h]
        rfl
      · rw [halfSum_low p _ _ ((rows_1 l hk).resolve_left h), add_zero]
        unfold zeros
        pointwise
  | 2, _ =>
    have e := row_high 0 l hk
    have a1 : A₁ (ix2 o ⟨l.val, by omega⟩) = _ := h₁ o ho ⟨l.val, by omega⟩
    have e' : (⟨l.val, by omega⟩ : Fin 256) = ⟨128 * (0 : Fin 2).val + l.val, by show 128 * 0 + l.val < 256; omega⟩ := Fin.ext (by show l.val = 128 * 0 + l.val; omega)
    rw [show rowOf 1 ⟨l.val, by omega⟩ = rowAt 2 l.val by rw [e']; exact e] at a1
    refine (show quarter A₀ A₁ 2 (ix2 o l) = A₁ (ix2 o ⟨l.val, by omega⟩) + select (ori (laneIs 14) (laneIs 126))
      (extractStridedSlice S400x128 ![0, 0] A₀ slices_S400x256_o0_0_S400x128) zeros (ix2 o l) from ?_).trans ?_
    · unfold quarter; pointwise
    · rw [a1, laneOr_apply 14 126 o l _ _ (by decide) (by decide)]
      split_ifs with h
      · rw [EReal.coe_add, add_comm]
        congr 1
        pointwise
        refine (h₀ o ho ⟨l.val, by omega⟩).trans ?_
        rcases h with h | h
        · rw [show (⟨l.val, by omega⟩ : Fin 256) = ⟨14, by decide⟩ from Fin.ext h, row_196.1, h]; rfl
        · rw [show (⟨l.val, by omega⟩ : Fin 256) = ⟨126, by decide⟩ from Fin.ext h, row_196.2, h]; rfl
      · rw [halfSum_high p _ _ ((rows_2 l hk).resolve_left h), zero_add]
        unfold zeros
        pointwise
  | 3, _ =>
    unfold quarter
    pointwise
    refine (h₁ o ho ⟨128 + l.val, by omega⟩).trans ?_
    rw [show rowOf 1 ⟨128 + l.val, by omega⟩ = rowAt 3 l.val from row_high 1 l hk, halfSum_high p _ _ (rows_3 l hk), zero_add]

theorem normalised_apply (i : grid0.Coords) (q : ℕ) (hq : q < 4) (o : Fin 400) (ho : o.val < 394) (l : Fin 128) (hk : kept q l.val = true) :
    normalised i (quarter A₀ A₁ q) (ix4 0 0 o l) = ((normed (i 1).val p (rowAt q l.val) o.val : ℝ) : EReal) := by
  unfold normalised
  pointwise
  rw [quarter_apply p A₀ A₁ h₀ h₁ q hq o ho l hk, channel_mul, channel_sub]
  refine (congrArg₂ (· - ·) (EReal.coe_mul _ _).symm rfl).trans ((EReal.coe_sub _ _).symm.trans ?_)
  congr 1
  unfold normed
  have hd : dev (i 1).val ≠ 0 := by unfold dev; split_ifs <;> norm_num
  field_simp

end Cert.KernelIdeal.Val
end
-- ==== Proof.Value.Largest.lean ====
/-
  The largest magnitude of a patch, as the kernel computes it, and the row of scales.
-/
module

public import proofs.«01_k».proof.Proof.Value.ScaleExp
public import proofs.«01_k».proof.Proof.Value.Stored

@[expose] public section

noncomputable section

namespace Cert.Val

/-- The magnitudes of patch `(gy, gx)` over the three channels. -/
def patch (P : ℕ → ℕ → ℕ → ℕ) (gy gx : ℕ) : Set ℝ :=
  {x | ∃ c, c < 3 ∧ ∃ py, py < 14 ∧ ∃ px, px < 14 ∧ x = |normed c (P c) (14 * gy + py) (14 * gx + px)|}

end Cert.Val

namespace Cert.KernelIdeal.Val

open Idealize.ShloMosaic Idealize.ShloMosaic.TcCoe Cert.KernelIdeal.Gen Cert.KernelIdeal Cert.Val

set_option maxRecDepth 16384

variable (S : ℕ → ℕ → ℕ → Vec Ideal S1x1x32x128 .f32) (P : ℕ → ℕ → ℕ → ℕ)

/-- What the slabs hold. -/
def Slabs : Prop :=
  ∀ cc q px (r : Fin 32) (l : Fin 128), cc < 3 → q < 4 → px < 14 → r.val < 28 → kept q l.val = true →
    S cc q px (ix4 0 0 r l) = ((normed cc (P cc) (rowAt q l.val) (14 * r.val + px) : ℝ) : EReal)

theorem kept_half (half v l : ℕ) (hv : v < 2) (hh : half < 2) : kept (2 * half + v) l = kept (2 * half) l := by
  unfold kept
  have : half = 0 ∨ half = 1 := by omega
  rcases this with rfl | rfl <;> simp <;> omega

/-- The magnitudes in a lane among the first `n` slabs of a half. -/
def upTo (half r l n : ℕ) : Set ℝ :=
  {x | ∃ k, k ≤ n ∧ x = |normed (k % 42 / 14) (P (k % 42 / 14)) (rowAt (2 * half + k / 42) l) (14 * r + k % 14)|}

theorem flat_apply (hS : Slabs S P) (cc q px : ℕ) (hc : cc < 3) (hq : q < 4) (hp : px < 14) (r : Fin 32) (l : Fin 128) (hr : r.val < 28)
    (hk : kept q l.val = true) :
    flat S cc q px (ix2 r l) = ((normed cc (P cc) (rowAt q l.val) (14 * r.val + px) : ℝ) : EReal) := by
  unfold flat
  pointwise
  exact hS cc q px r l hc hq hp hr hk

theorem mag_apply (hS : Slabs S P) (half k : ℕ) (hh : half < 2) (hk : k < 84) (r : Fin 32) (l : Fin 128) (hr : r.val < 28)
    (hl : kept (2 * half) l.val = true) :
    mag S half k (ix2 r l)
      = ((|normed (k % 42 / 14) (P (k % 42 / 14)) (rowAt (2 * half + k / 42) l.val) (14 * r.val + k % 14)| : ℝ) : EReal) := by
  have e := flat_apply S P hS (k % 42 / 14) (2 * half + k / 42) (k % 14) (by omega) (by omega) (by omega) r l hr
    (by rw [kept_half half (k / 42) l.val (by omega) hh]; exact hl)
  unfold mag
  show FloatOps.absf (F := Ideal) (φ := .f32) (flat S (k % 42 / 14) (2 * half + k / 42) (k % 14) (ix2 r l)) = _
  rw [e, absf_coe]

theorem greatest_union {s t : Set ℝ} {a b : ℝ} (ha : IsGreatest s a) (hb : IsGreatest t b) : IsGreatest (s ∪ t) (max a b) := ha.union hb

theorem chain_apply (hS : Slabs S P) (half : ℕ) (hh : half < 2) (r : Fin 32) (l : Fin 128) (hr : r.val < 28)
    (hl : kept (2 * half) l.val = true) (k : ℕ) (hk : k < 84) :
    ∃ A : ℝ, chain S half k (ix2 r l) = (A : EReal) ∧ IsGreatest (upTo P half r.val l.val k) A := by
  induction k with
  | zero =>
    refine ⟨_, mag_apply S P hS half 0 hh hk r l hr hl, ⟨0, le_rfl, rfl⟩, ?_⟩
    rintro x ⟨k', hk', rfl⟩
    obtain rfl : k' = 0 := by omega
    exact le_rfl
  | succ k ih =>
    obtain ⟨A, hA, hg⟩ := ih (by omega)
    refine ⟨max A |normed ((k + 1) % 42 / 14) (P ((k + 1) % 42 / 14)) (rowAt (2 * half + (k + 1) / 42) l.val) (14 * r.val + (k + 1) % 14)|, ?_, ?_⟩
    · show max (chain S half k (ix2 r l)) (mag S half (k + 1) (ix2 r l)) = _
      rw [hA, mag_apply S P hS half (k + 1) hh hk r l hr hl, coe_max]
    · have := greatest_union hg (isGreatest_singleton (a := |normed ((k + 1) % 42 / 14) (P ((k + 1) % 42 / 14)) (rowAt (2 * half + (k + 1) / 42) l.val) (14 * r.val + (k + 1) % 14)|))
      convert this using 1
      ext x
      constructor
      · rintro ⟨k', hk', rfl⟩
        rcases Nat.lt_succ_iff_lt_or_eq.1 (Nat.lt_succ_of_le hk') with h | h
        · exact .inl ⟨k', by omega, rfl⟩
        · subst h; exact .inr rfl
      · rintro (⟨k', hk', rfl⟩ | rfl)
        · exact ⟨k', by omega, rfl⟩
        · exact ⟨k + 1, le_rfl, rfl⟩

theorem fold_apply (n : ℕ) (hn : n < 128) (a : FVec Ideal S32x128 .f32) (r : Fin 32) (l : Fin 128) :
    fold (BitVec.ofNat 32 n) a (ix2 r l) = max (a (ix2 r l)) (a (ix2 r ⟨(l.val + 128 - n) % 128, Nat.mod_lt _ (by decide)⟩)) := by
  unfold fold
  pointwise
  simp only [BitVec.toNat_ofNat, show n % 2 ^ 32 % 128 = n by omega]

/-- The magnitudes of the lanes with the residue of `l`. -/
def around (half r l : ℕ) : Set ℝ := {x | ∃ l', l' < 128 ∧ l' % 16 = l % 16 ∧ x ∈ upTo P half r l' 83}

theorem kept_residue (q l l' : ℕ) (h : l' % 16 = l % 16) : kept q l' = kept q l := by unfold kept; rw [h]

/-- A fold takes the maximum of two lanes. -/
theorem fold_greatest (n : ℕ) (hn : n < 128) (h16 : n % 16 = 0) (a : FVec Ideal S32x128 .f32) (r : Fin 32) (T : ℕ → Set ℝ) (s : ℕ)
    (ha : ∀ l : Fin 128, l.val % 16 = s → ∃ A : ℝ, a (ix2 r l) = (A : EReal) ∧ IsGreatest (T l.val) A) (l : Fin 128) (hl : l.val % 16 = s) :
    ∃ A : ℝ, fold (BitVec.ofNat 32 n) a (ix2 r l) = (A : EReal) ∧ IsGreatest (T l.val ∪ T ((l.val + 128 - n) % 128)) A := by
  obtain ⟨A, hA, gA⟩ := ha l hl
  obtain ⟨B, hB, gB⟩ := ha ⟨(l.val + 128 - n) % 128, Nat.mod_lt _ (by decide)⟩ (by show (l.val + 128 - n) % 128 % 16 = s; omega)
  refine ⟨max A B, ?_, greatest_union gA gB⟩
  rw [fold_apply n hn, hA, hB, coe_max]

theorem amax_around (hS : Slabs S P) (half : ℕ) (hh : half < 2) (r : Fin 32) (l : Fin 128) (hr : r.val < 28)
    (hl : kept (2 * half) l.val = true) :
    ∃ A : ℝ, amax S half (ix2 r l) = (A : EReal) ∧ IsGreatest (around P half r.val l.val) A := by
  have h0 : ∀ l' : Fin 128, l'.val % 16 = l.val % 16 → ∃ A : ℝ, chain S half 83 (ix2 r l') = (A : EReal) ∧ IsGreatest (upTo P half r.val l'.val 83) A :=
    fun l' hl' => chain_apply S P hS half hh r l' hr (by rw [kept_residue _ _ _ hl']; exact hl) 83 (by decide)
  have h1 := fold_greatest 64 (by decide) (by decide) (chain S half 83) r (fun l' => upTo P half r.val l' 83) _ h0
  have h2 := fold_greatest 32 (by decide) (by decide) _ r (fun l' => upTo P half r.val l' 83 ∪ upTo P half r.val ((l' + 128 - 64) % 128) 83) _ h1
  obtain ⟨A, hA, gA⟩ := fold_greatest 16 (by decide) (by decide) _ r (fun l' => (upTo P half r.val l' 83 ∪ upTo P half r.val ((l' + 128 - 64) % 128) 83)
    ∪ (upTo P half r.val ((l' + 128 - 32) % 128) 83 ∪ upTo P half r.val (((l' + 128 - 32) % 128 + 128 - 64) % 128) 83)) _ h2 l rfl
  refine ⟨A, hA, ?_⟩
  convert gA using 1
  have hlt := l.isLt
  ext x
  constructor
  · rintro ⟨l', hl', hm, hx⟩
    have hj : l' = l.val ∨ l' = (l.val + 128 - 64) % 128 ∨ l' = (l.val + 128 - 32) % 128 ∨ l' = ((l.val + 128 - 32) % 128 + 128 - 64) % 128
      ∨ l' = (l.val + 128 - 16) % 128 ∨ l' = ((l.val + 128 - 16) % 128 + 128 - 64) % 128 ∨ l' = ((l.val + 128 - 16) % 128 + 128 - 32) % 128
      ∨ l' = (((l.val + 128 - 16) % 128 + 128 - 32) % 128 + 128 - 64) % 128 := by omega
    rcases hj with rfl | h | h | h | h | h | h | h
    · exact .inl (.inl (.inl hx))
    · exact .inl (.inl (.inr (h ▸ hx)))
    · exact .inl (.inr (.inl (h ▸ hx)))
    · exact .inl (.inr (.inr (h ▸ hx)))
    · exact .inr (.inl (.inl (h ▸ hx)))
    · exact .inr (.inl (.inr (h ▸ hx)))
    · exact .inr (.inr (.inl (h ▸ hx)))
    · exact .inr (.inr (.inr (h ▸ hx)))
  · rintro (((hx | hx) | (hx | hx)) | ((hx | hx) | (hx | hx)))
    all_goals exact ⟨_, by omega, by omega, hx⟩

theorem slotRow_lt (q l : ℕ) (hk : kept q l = true) (hq : q < 4) : slotRow q l < 28 := by
  unfold kept at hk; unfold slotRow
  split_ifs at * <;> simp at hk <;> omega

/-- The lanes of a residue hold the patch. -/
theorem around_eq (half r l : ℕ) (hh : half < 2) : around P half r l = patch P (slotRow (2 * half) l) r := by
  have hslot : ∀ v l', v < 2 → l' % 16 = l % 16 → slotRow (2 * half + v) l' = slotRow (2 * half) l := by
    intro v l' hv h
    unfold slotRow
    have : half = 0 ∨ half = 1 := by omega
    rw [h]
    rcases this with rfl | rfl
    · rw [if_pos (by omega), if_pos (by omega)]
    · have e1 : ¬ 2 * 1 + v < 2 := by omega
      have e2 : ¬ 2 * 1 < 2 := by omega
      rw [if_neg e1, if_neg e2]
  ext x
  constructor
  · rintro ⟨l', hl', hm, k, hk, rfl⟩
    refine ⟨k % 42 / 14, by omega, 7 * (k / 42) + l' / 16 % 7, by omega, k % 14, by omega, ?_⟩
    unfold rowAt
    rw [hslot _ _ (by omega) hm, show (2 * half + k / 42) % 2 = k / 42 by omega, Nat.add_assoc (14 * slotRow (2 * half) l)]
  · rintro ⟨c, hc, py, hpy, px, hpx, rfl⟩
    refine ⟨16 * (py % 7) + l % 16, by omega, by omega, 42 * (py / 7) + 14 * c + px, by omega, ?_⟩
    unfold rowAt
    rw [show (42 * (py / 7) + 14 * c + px) / 42 = py / 7 by omega, hslot _ _ (by omega) (by omega),
      show (42 * (py / 7) + 14 * c + px) % 42 / 14 = c by omega, show (42 * (py / 7) + 14 * c + px) % 14 = px by omega,
      show (2 * half + py / 7) % 2 = py / 7 by omega, show (16 * (py % 7) + l % 16) / 16 % 7 = py % 7 by omega,
      Nat.add_assoc (14 * slotRow (2 * half) l), show 7 * (py / 7) + py % 7 = py by omega]

/-- The largest magnitude of a patch. -/
theorem amax_apply (hS : Slabs S P) (half : ℕ) (hh : half < 2) (r : Fin 32) (l : Fin 128) (hr : r.val < 28)
    (hl : kept (2 * half) l.val = true) :
    ∃ A : ℝ, amax S half (ix2 r l) = (A : EReal) ∧ IsGreatest (patch P (slotRow (2 * half) l.val) r.val) A := by
  rw [← around_eq P half r.val l.val hh]
  exact amax_around S P hS half hh r l hr hl

end Cert.KernelIdeal.Val

end
-- ==== Proof.Value.Bounds.lean ====
/-
  Bounds on the normalised resized image: it is a quotient of integers with a denominator that is not large, so where it
  does not vanish it is not tiny, and it is at most four.
-/
module

public import proofs.«01_k».proof.Proof.Value.Largest

@[expose] public section

noncomputable section

namespace Cert.Val

variable (p : ℕ → ℕ → ℕ) (hp : ∀ h w, p h w ≤ 255)

theorem rowSum_bounds (hp : ∀ h w, p h w ≤ 255) (o h : ℕ) (ho : o < 392) : 0 ≤ rowSum p o h ∧ rowSum p o h ≤ 255 := by
  unfold rowSum
  constructor
  · exact Finset.sum_nonneg fun w _ => mul_nonneg (wt_nonneg _ _ _) (Nat.cast_nonneg _)
  · calc _ ≤ ∑ w ∈ Finset.range 1536, wt 1536 o w * 255 :=
          Finset.sum_le_sum fun w _ => mul_le_mul_of_nonneg_left (by exact_mod_cast hp h w) (wt_nonneg _ _ _)
      _ = 255 := by rw [← Finset.sum_mul, wt_sum 1536 o (by decide) ho, one_mul]

theorem resized_bounds (hp : ∀ h w, p h w ≤ 255) (y o : ℕ) (hy : y < 392) (ho : o < 392) : 0 ≤ resized p y o ∧ resized p y o ≤ 255 := by
  unfold resized
  constructor
  · exact Finset.sum_nonneg fun h _ => mul_nonneg (wt_nonneg _ _ _) (rowSum_bounds p hp o h ho).1
  · calc _ ≤ ∑ h ∈ Finset.range 2048, wt 2048 y h * 255 :=
          Finset.sum_le_sum fun h _ => mul_le_mul_of_nonneg_left (rowSum_bounds p hp o h ho).2 (wt_nonneg _ _ _)
      _ = 255 := by rw [← Finset.sum_mul, wt_sum 2048 y (by decide) hy, one_mul]

theorem resized_quotient (y o : ℕ) (hy : y < 392) (ho : o < 392) :
    ∃ I : ℕ, resized p y o = (I : ℝ) / ((numSum 2048 y : ℝ) * (numSum 1536 o : ℝ)) := by
  refine ⟨∑ h ∈ Finset.range 2048, triNum 2048 y h * ∑ w ∈ Finset.range 1536, triNum 1536 o w * p h w, ?_⟩
  have e1 : (numSum 2048 y : ℝ) ≠ 0 := by exact_mod_cast (numSum_pos 2048 y (by decide) hy).ne'
  have e2 : (numSum 1536 o : ℝ) ≠ 0 := by exact_mod_cast (numSum_pos 1536 o (by decide) ho).ne'
  have hr : ∀ h, rowSum p o h = (∑ w ∈ Finset.range 1536, (triNum 1536 o w : ℝ) * (p h w : ℝ)) / numSum 1536 o := fun h => by
    unfold rowSum
    rw [Finset.sum_div]
    refine Finset.sum_congr rfl fun w _ => ?_
    rw [wt_eq_num 1536 o w (by decide) ho]
    ring
  unfold resized
  push_cast
  rw [Finset.sum_div]
  refine Finset.sum_congr rfl fun h _ => ?_
  rw [wt_eq_num 2048 y h (by decide) hy, hr h]
  field_simp

/-- The mean and the deviation in units of one part in a hundred million. -/
def meanNum (c : ℕ) : ℤ := if c = 0 then 48145466 else if c = 1 then 45782750 else 40821073
def devNum (c : ℕ) : ℤ := if c = 0 then 26862954 else if c = 1 then 26130258 else 27577711

theorem mean_eq (c : ℕ) : mean c = meanNum c / 100000000 := by
  unfold mean meanNum; split_ifs <;> norm_num
theorem dev_eq (c : ℕ) : dev c = devNum c / 100000000 := by
  unfold dev devNum; split_ifs <;> norm_num
theorem devNum_bounds (c : ℕ) : 25000000 ≤ devNum c ∧ devNum c ≤ 27577711 := by
  unfold devNum; split_ifs <;> norm_num
theorem meanNum_bounds (c : ℕ) : 0 ≤ meanNum c ∧ meanNum c ≤ 100000000 := by
  unfold meanNum; split_ifs <;> norm_num

theorem normed_le (hp : ∀ h w, p h w ≤ 255) (c y o : ℕ) (hy : y < 392) (ho : o < 392) : |normed c p y o| ≤ 4 := by
  obtain ⟨h1, h2⟩ := resized_bounds p hp y o hy ho
  obtain ⟨m1, m2⟩ := meanNum_bounds c
  obtain ⟨d1, d2⟩ := devNum_bounds c
  have m1' : (0 : ℝ) ≤ meanNum c := by exact_mod_cast m1
  have m2' : (meanNum c : ℝ) ≤ 100000000 := by exact_mod_cast m2
  have d1' : (25000000 : ℝ) ≤ devNum c := by exact_mod_cast d1
  unfold normed
  rw [mean_eq, dev_eq, abs_div, abs_of_pos (by positivity : (0 : ℝ) < devNum c / 100000000), div_le_iff₀ (by positivity), abs_le]
  constructor <;> linarith

theorem normed_ge (c y o : ℕ) (hy : y < 392) (ho : o < 392) (h0 : normed c p y o ≠ 0) : (2 : ℝ) ^ (-100 : ℤ) ≤ |normed c p y o| := by
  obtain ⟨I, hI⟩ := resized_quotient p y o hy ho
  have n1 := numSum_pos 2048 y (by decide) hy
  have n2 := numSum_pos 1536 o (by decide) ho
  have l1 := numSum_le 2048 y
  have l2 := numSum_le 1536 o
  generalize numSum 2048 y = a at hI n1 l1
  generalize numSum 1536 o = b at hI n2 l2
  have l1 : (a : ℝ) ≤ 8388608 := by exact_mod_cast l1
  have l2 : (b : ℝ) ≤ 4718592 := by exact_mod_cast l2
  have p1 : (0 : ℝ) < a := by exact_mod_cast n1
  have p2 : (0 : ℝ) < b := by exact_mod_cast n2
  obtain ⟨d1, d2⟩ := devNum_bounds c
  have d1' : (25000000 : ℝ) ≤ devNum c := by exact_mod_cast d1
  have d2' : (devNum c : ℝ) ≤ 27577711 := by exact_mod_cast d2
  have dp : (0 : ℝ) < devNum c := by linarith
  have e : normed c p y o = (((I : ℤ) * 100000000 - 255 * ((a : ℤ) * b) * meanNum c : ℤ) : ℝ)
      / (255 * ((a : ℝ) * b) * devNum c) := by
    unfold normed
    rw [mean_eq, dev_eq, hI]
    push_cast
    field_simp
  rw [e] at h0 ⊢
  generalize ((I : ℤ) * 100000000 - 255 * ((a : ℤ) * b) * meanNum c : ℤ) = N at h0 ⊢
  have hN : N ≠ 0 := by rintro rfl; simp at h0
  have hN' : (1 : ℝ) ≤ |(N : ℝ)| := by exact_mod_cast Int.one_le_abs hN
  have hD : (0 : ℝ) < 255 * ((a : ℝ) * b) * devNum c := by positivity
  rw [abs_div, abs_of_pos hD, le_div_iff₀ hD]
  have hD' : 255 * ((a : ℝ) * b) * devNum c ≤ 255 * (8388608 * 4718592) * 27577711 := by gcongr
  calc (2 : ℝ) ^ (-100 : ℤ) * (255 * ((a : ℝ) * b) * devNum c)
      ≤ (2 : ℝ) ^ (-100 : ℤ) * (255 * (8388608 * 4718592) * 27577711) := by gcongr
    _ ≤ 1 := by norm_num
    _ ≤ _ := hN'

end Cert.Val

namespace Cert.KernelIdeal.Val

open Cert.Val

theorem patch_range (P : ℕ → ℕ → ℕ → ℕ) (hP : ∀ c h w, P c h w ≤ 255) (gy gx : ℕ) (hy : gy < 28) (hx : gx < 28) (A : ℝ)
    (hA : IsGreatest (patch P gy gx) A) : 0 ≤ A ∧ InRange A := by
  obtain ⟨⟨c, hc, py, hpy, px, hpx, rfl⟩, hmax⟩ := hA
  refine ⟨abs_nonneg _, ?_⟩
  by_cases h0 : normed c (P c) (14 * gy + py) (14 * gx + px) = 0
  · exact .inl (abs_eq_zero.2 h0)
  · refine .inr ⟨?_, ?_⟩
    · have h := normed_ge (P c) c _ _ (by omega) (by omega) h0
      calc (2 : ℝ) ^ (-126 : ℤ) ≤ (2 : ℝ) ^ (-100 : ℤ) * rho := by unfold rho; norm_num
        _ ≤ _ := by have := rho_pos; gcongr
    · have h := normed_le (P c) (hP c) c _ _ (by omega : 14 * gy + py < 392) (by omega : 14 * gx + px < 392)
      calc _ ≤ 4 * rho := by have := rho_pos; gcongr
        _ < (2 : ℝ) ^ (100 : ℤ) := by unfold rho; norm_num

end Cert.KernelIdeal.Val

end
-- ==== Proof.Value.Rows.lean ====
/-
  The row of scales, and the quantised slabs merged and spread into rows of codes, at an index.
-/
module

public import proofs.«01_k».proof.Proof.Value.Bounds

@[expose] public section

noncomputable section

namespace Cert.Val

/-- The largest magnitude of a patch. -/
def top (P : ℕ → ℕ → ℕ → ℕ) (gy gx : ℕ) : ℝ := sSup (patch P gy gx)

/-- The scale of a patch. -/
def scaleOf (P : ℕ → ℕ → ℕ → ℕ) (gy gx : ℕ) : ℝ := (2 : ℝ) ^ (ex (top P gy gx))

/-- A value quantised. -/
def code (P : ℕ → ℕ → ℕ → ℕ) (gy gx c py px : ℕ) : ℝ :=
  min 448 (max (-448) (normed c (P c) (14 * gy + py) (14 * gx + px) * (2 : ℝ) ^ (-ex (top P gy gx))))

end Cert.Val

namespace Cert.KernelIdeal.Val

open Idealize.ShloMosaic Idealize.ShloMosaic.TcCoe Cert.KernelIdeal.Gen Cert.KernelIdeal Cert.Val

set_option maxRecDepth 16384

variable (S : ℕ → ℕ → ℕ → Vec Ideal S1x1x32x128 .f32) (P : ℕ → ℕ → ℕ → ℕ) (hP : ∀ c h w, P c h w ≤ 255)

theorem slot_kept (half g : ℕ) (hh : half < 2) (hg : g < 14) :
    kept (2 * half) (slotOf half g) = true ∧ slotRow (2 * half) (slotOf half g) = 14 * half + g ∧ slotOf half g < 15 := by
  have : half = 0 ∨ half = 1 := by omega
  rcases this with rfl | rfl <;> interval_cases g <;> decide

theorem amax_top (hS : Slabs S P) (hP : ∀ c h w, P c h w ≤ 255) (half : ℕ) (hh : half < 2) (r : Fin 32) (l : Fin 128) (hr : r.val < 28)
    (hl : kept (2 * half) l.val = true) :
    amax S half (ix2 r l) = ((top P (slotRow (2 * half) l.val) r.val : ℝ) : EReal) ∧ InRange (top P (slotRow (2 * half) l.val) r.val) := by
  obtain ⟨A, hA, gA⟩ := amax_apply S P hS half hh r l hr hl
  have e : top P (slotRow (2 * half) l.val) r.val = A := gA.csSup_eq
  rw [e]
  exact ⟨hA, (patch_range P hP _ _ (slotRow_lt _ _ hl (by omega)) hr A gA).2⟩

/-- The row of scales at a patch. -/
theorem scaleRow_apply (hS : Slabs S P) (hP : ∀ c h w, P c h w ≤ 255) (half g : ℕ) (hh : half < 2) (hg : g < 14) (x : Fin 28) :
    scaleRow (amax S half) half g (ix2 0 x) = ((scaleOf P (14 * half + g) x.val : ℝ) : EReal) := by
  obtain ⟨k1, k2, k3⟩ := slot_kept half g hh hg
  obtain ⟨hA, hR⟩ := amax_top S P hS hP half hh ⟨x.val, by omega⟩ ⟨slotOf half g, by omega⟩ x.isLt k1
  have e := scale_apply (amax S half) _ _ hA hR
  unfold scaleRow columns
  pointwise
  have hx := x.isLt
  rw [dif_pos (by omega : x.val < 32)]
  refine Eq.trans ?_ (e.trans ?_)
  · congr 1
  · unfold scaleOf
    dsimp only
    rw [k2]

theorem scales_apply (hS : Slabs S P) (hP : ∀ c h w, P c h w ≤ 255) (A : ℕ → FVec Ideal S32x128 .f32) (hA : ∀ half, half < 2 → A half = amax S half) (h) (k : Fin 784) :
    scales A h (ix3 0 0 k) = ((scaleOf P (k.val / 28) (k.val % 28) : ℝ) : EReal) := by
  have hk := k.isLt
  refine Eq.trans (b := concatenate S1x784 1 (List.ofFn fun n : Fin 28 =>
    (⟨S1x28, scaleRow (A (n.val / 14)) (n.val / 14) (n.val % 14)⟩ : (s : Shape) × FVec Ideal s .f32)) h (ix2 0 k))
    (by unfold scales; pointwise) ?_
  refine (concatenate_ofFn_apply (t := S1x784) (s₁ := S1x28) 1
    (fun n : Fin 28 => (scaleRow (A (n.val / 14)) (n.val / 14) (n.val % 14) : FVec Ideal S1x28 .f32)) _ rfl 28 rfl
    (ix2 0 k) ⟨k.val / 28, by omega⟩ rfl (ix2 0 ⟨k.val % 28, by omega⟩) rfl
    (by intro b hb; match b with | 0 => rfl | 1 => exact absurd rfl hb)).trans ?_
  rw [hA _ (by show k.val / 28 / 14 < 2; omega)]
  refine (scaleRow_apply S P hS hP _ _ (by show k.val / 28 / 14 < 2; omega) (by show k.val / 28 % 14 < 14; omega) _).trans ?_
  dsimp only
  rw [show 14 * (k.val / 28 / 14) + k.val / 28 % 14 = k.val / 28 by omega]

/-! ## The lanes of the codes -/

/-- The column that a lane stands for. -/
theorem column_apply (shift : BitVec 32) (r : Fin 32) (l : Fin 128) :
    column shift (ix2 r l) = IntOp.minsi 195#32 (IntOp.maxsi 0#32 (BitVec.ofNat 32 l.val + shift)) := by
  unfold column lane32 const
  pointwise
  rfl

variable (shift : BitVec 32) (r : Fin 32) (l : Fin 128) (t : ℕ) (ht : t < 196) (hc : column shift (ix2 r l) = BitVec.ofNat 32 t)
include ht hc

theorem second_apply : second shift (ix2 r l) = BitVec.ofNat 32 (t / 98) := by
  show (IntOp.cmpi .sge (column shift (ix2 r l)) 98#32).setWidth 32 = _
  rw [hc]
  have : ∀ t : Fin 196, (IntOp.cmpi .sge (BitVec.ofNat 32 t.val) 98#32).setWidth 32 = BitVec.ofNat 32 (t.val / 98) := by decide +kernel
  exact this ⟨t, ht⟩

theorem within_apply : within shift (ix2 r l) = BitVec.ofNat 32 (t % 98) := by
  show column shift (ix2 r l) - second shift (ix2 r l) * 98#32 = _
  rw [hc, second_apply shift r l t ht hc]
  have : ∀ t : Fin 196, BitVec.ofNat 32 t.val - BitVec.ofNat 32 (t.val / 98) * 98#32 = BitVec.ofNat 32 (t.val % 98) := by decide +kernel
  exact this ⟨t, ht⟩

theorem rowIn_apply : rowIn shift (ix2 r l) = BitVec.ofNat 32 (t % 98 / 14) := by
  show IntOp.shrsi .vector (within shift (ix2 r l) * 1171#32) 14#32 = _
  rw [within_apply shift r l t ht hc]
  have : ∀ t : Fin 98, IntOp.shrsi .vector (BitVec.ofNat 32 t.val * 1171#32) 14#32 = BitVec.ofNat 32 (t.val / 14) := by decide +kernel
  exact this ⟨t % 98, by omega⟩

theorem source_apply (slot : ℕ) (hs : slot < 15) :
    source shift slot (ix2 r l) = BitVec.ofNat 32 ((16 * (t % 98 / 14) + t % 14 + slot) % 128) := by
  show ((16#32 * rowIn shift (ix2 r l)) + (within shift (ix2 r l) - 14#32 * rowIn shift (ix2 r l)) + BitVec.ofNat 32 slot) &&& 127#32 = _
  rw [within_apply shift r l t ht hc, rowIn_apply shift r l t ht hc]
  have : ∀ (t : Fin 98) (slot : Fin 15), ((16#32 * BitVec.ofNat 32 (t.val / 14)) + (BitVec.ofNat 32 t.val - 14#32 * BitVec.ofNat 32 (t.val / 14)) + BitVec.ofNat 32 slot.val) &&& 127#32
      = BitVec.ofNat 32 ((16 * (t.val / 14) + t.val % 14 + slot.val) % 128) := by decide +kernel
  rw [this ⟨t % 98, by omega⟩ ⟨slot, hs⟩]
  dsimp only
  rw [show t % 98 % 14 = t % 14 by omega]

omit ht hc in
theorem take_apply (m : FVec Ideal S32x128 .f32) (i : IVec S32x128 32) (n : ℕ) (hn : n < 128) (hi : i (ix2 r l) = BitVec.ofNat 32 n) :
    take m i (ix2 r l) = m (ix2 r ⟨n, hn⟩) := by
  unfold take
  pointwise
  have key : ∀ (k : ℕ) (hk : k < 128), k = n → m (ix2 r ⟨k, hk⟩) = m (ix2 r ⟨n, hn⟩) := by
    rintro k hk rfl
    rfl
  refine key _ _ ?_
  rw [hi]
  have : ∀ n : Fin 128, (Scalar.select (IntOp.cmpi .slt (BitVec.ofNat 32 n.val) 0#32)
      (IntOp.addi (BitVec.ofNat 32 n.val) 128#32) (BitVec.ofNat 32 n.val)).toNat % 128 = n.val := by decide +kernel
  exact this ⟨n, hn⟩

end Cert.KernelIdeal.Val

end
-- ==== Proof.Value.RefHost.lean ====
/-
  What the reference hands its quantiser: the resized image, cut into patches.
-/
module

public import proofs.«01_k».proof.Proof.Gen.ReferenceIdeal.Value
public import proofs.«01_k».proof.Proof.Value.Rows
public import Idealize.ShloMosaic.Lib.Pointwise
public import Idealize.ShloMosaic.Lib.Pointwise.IndexVar
public import Idealize.ShloMosaic.Lib.Pointwise.IndexBridge
public import Idealize.ShloMosaic.Lib.ValueIdxRank6
public import Idealize.ShloMosaic.Lib.StableHlo.RunRead
public import Idealize.ShloMosaic.Lib.Claim

@[expose] public section

noncomputable section

namespace Cert.ReferenceIdeal.Val

open Idealize.ShloMosaic Idealize.ShloMosaic.TcCoe Idealize.ShloMosaic.StableHlo Cert.ReferenceIdeal.Gen Cert.ReferenceIdeal Cert.Val

set_option maxRecDepth 16384

section
variable {F : FTy → Type} [FloatOps F] [Named F]

def ratioW : FVec F S_ .f32 := Host.divf (constant S_ .f32 0x44C00000#32) (constant S_ .f32 0x43C40000#32)
def ratioH : FVec F S_ .f32 := Host.divf (constant S_ .f32 0x45000000#32) (constant S_ .f32 0x43C40000#32)

/-- The triangle filter of the width, not normalised. -/
def triW : FVec F S392x1536 .f32 :=
  maximumf (broadcastInDim S392x1536 ![] bcast_S_S392x1536 (constant S_ .f32 0x00000000#32))
    (subf (broadcastInDim S392x1536 ![] bcast_S_S392x1536 (constant S_ .f32 0x3F800000#32))
      (Host.divf
        (Host.absf
          (subf
            (broadcastInDim S392x1536 ![0, 1] bcast_S1x1536_S392x1536_0_1
              (addf (broadcastInDim S1x1536 ![1] bcast_S1536_S1x1536_1 (sitofp .f32 (iotaInDim S1536 32 0)))
                (broadcastInDim S1x1536 ![] bcast_S_S1x1536 (constant S_ .f32 0x3F000000#32))))
            (broadcastInDim S392x1536 ![0, 1] bcast_S392x1_S392x1536_0_1
              (broadcastInDim S392x1 ![0] bcast_S392_S392x1_0
                (mulf
                  (addf (sitofp .f32 (iotaInDim S392 32 0)) (broadcastInDim S392 ![] bcast_S_S392 (constant S_ .f32 0x3F000000#32)))
                  (broadcastInDim S392 ![] bcast_S_S392 ratioW))))))
        (broadcastInDim S392x1536 ![] bcast_S_S392x1536 (maximumf ratioW (constant S_ .f32 0x3F800000#32)))))

/-- The triangle filter of the height, not normalised. -/
def triH : FVec F S392x2048 .f32 :=
  maximumf (broadcastInDim S392x2048 ![] bcast_S_S392x2048 (constant S_ .f32 0x00000000#32))
    (subf (broadcastInDim S392x2048 ![] bcast_S_S392x2048 (constant S_ .f32 0x3F800000#32))
      (Host.divf
        (Host.absf
          (subf
            (broadcastInDim S392x2048 ![0, 1] bcast_S1x2048_S392x2048_0_1
              (addf (broadcastInDim S1x2048 ![1] bcast_S2048_S1x2048_1 (sitofp .f32 (iotaInDim S2048 32 0)))
                (broadcastInDim S1x2048 ![] bcast_S_S1x2048 (constant S_ .f32 0x3F000000#32))))
            (broadcastInDim S392x2048 ![0, 1] bcast_S392x1_S392x2048_0_1
              (broadcastInDim S392x1 ![0] bcast_S392_S392x1_0
                (mulf
                  (addf (sitofp .f32 (iotaInDim S392 32 0)) (broadcastInDim S392 ![] bcast_S_S392 (constant S_ .f32 0x3F000000#32)))
                  (broadcastInDim S392 ![] bcast_S_S392 ratioH))))))
        (broadcastInDim S392x2048 ![] bcast_S_S392x2048 (maximumf ratioH (constant S_ .f32 0x3F800000#32)))))

/-- The weights of an axis. -/
def weightsW : FVec F S392x1536 .bf16 :=
  truncf .bf16
    (Host.divf triW
      (broadcastInDim S392x1536 ![0, 1] bcast_S392x1_S392x1536_0_1
        (broadcastInDim S392x1 ![0] bcast_S392_S392x1_0
          (Host.reduceAdd triW (constant S_ .f32 0x00000000#32) reducesTo_S392x1536_S392_d1 h_S_))))
    bitsLt_bf16_f32
def weightsH : FVec F S392x2048 .bf16 :=
  truncf .bf16
    (Host.divf triH
      (broadcastInDim S392x2048 ![0, 1] bcast_S392x1_S392x2048_0_1
        (broadcastInDim S392x1 ![0] bcast_S392_S392x1_0
          (Host.reduceAdd triH (constant S_ .f32 0x00000000#32) reducesTo_S392x2048_S392_d1 h_S_))))
    bitsLt_bf16_f32

/-- The resized image, its two axes exchanged. -/
def image (x : IVec S2x3x2048x1536 8) : FVec F S2x3x392x392 .f32 :=
  Host.dotGeneral dot_S2x3x2048x392_S392x2048_S2x3x392x392_2_1_013_0_n_n none
    (truncf .bf16 (Host.dotGeneral dot_S2x3x2048x1536_S392x1536_S2x3x2048x392_3_1_012_0_n_n none
      (truncf .bf16 (sitofp .f32 (extui 32 x natLt_8_32) : FVec F S2x3x2048x1536 .f32) bitsLt_bf16_f32) weightsW : FVec F S2x3x2048x392 .f32) bitsLt_bf16_f32)
    weightsH

/-- The patches. -/
def patches (y : FVec F S2x3x392x392 .f32) : FVec F S2x784x588 .f32 :=
  shapeCast S2x784x588
    (transpose S2x28x28x3x14x14 [0, 4, 2, 1, 5, 3] (shapeCast S2x3x28x14x28x14 y shapeCasts_S2x3x392x392_S2x3x28x14x28x14)
      transposes_S2x3x28x14x28x14_S2x28x28x3x14x14_0_4_2_1_5_3)
    shapeCasts_S2x28x28x3x14x14_S2x784x588

variable (m : (ℓ : Loc nD τ sig) → Buf (Elt F) ℓ) (c : Dev nD)

set_option maxHeartbeats 4000000 in
theorem V_patches : V m c main_v62 = (patches (image (m ((c : Thread nD τ).loc main_arg0))) : FVec F S2x784x588 .f32) := by
  unfold_abbrev_sides
  after_reads_simp
  rfl

end

theorem ratio_max (r : EReal) (x : ℝ) (h : r = (x : EReal)) (h1 : 1 ≤ x) : max r 1 = r := by
  rw [h, show (1 : EReal) = ((1 : ℝ) : EReal) by rfl, coe_max, max_eq_left h1]

theorem triW_apply (o : Fin 392) (j : Fin 1536) : (triW (F := Ideal)) (ix2 o j) = ((tri 1536 o.val j.val : ℝ) : EReal) := by
  unfold triW ratioW
  pointwise
  exact filter_scalar 1536 o.val j.val (by decide) (by omega) (by omega) _ _ ratio_width (ratio_max _ _ ratio_width (by norm_num))

theorem triH_apply (o : Fin 392) (j : Fin 2048) : (triH (F := Ideal)) (ix2 o j) = ((tri 2048 o.val j.val : ℝ) : EReal) := by
  unfold triH ratioH
  pointwise
  exact filter_scalar 2048 o.val j.val (by decide) (by omega) (by omega) _ _ ratio_height (ratio_max _ _ ratio_height (by norm_num))

theorem weightsW_apply (o : Fin 392) (j : Fin 1536) : (weightsW (F := Ideal)) (ix2 o j) = ((wt 1536 o.val j.val : ℝ) : EReal) := by
  unfold weightsW
  pointwise
  simp only [triW_apply]
  exact weight_scalar 1536 o.val j.val (by decide) o.isLt

theorem weightsH_apply (o : Fin 392) (j : Fin 2048) : (weightsH (F := Ideal)) (ix2 o j) = ((wt 2048 o.val j.val : ℝ) : EReal) := by
  unfold weightsH
  pointwise
  simp only [triH_apply]
  exact weight_scalar 2048 o.val j.val (by decide) o.isLt

/-- The pixels of channel `ch` of image `b`. -/
def pixels (x : IVec S2x3x2048x1536 8) (b ch h w : ℕ) : ℕ :=
  (x (ix4 ⟨b % 2, Nat.mod_lt _ (by decide)⟩ ⟨ch % 3, Nat.mod_lt _ (by decide)⟩ ⟨h % 2048, Nat.mod_lt _ (by decide)⟩ ⟨w % 1536, Nat.mod_lt _ (by decide)⟩)).toNat

theorem pixels_fin (x : IVec S2x3x2048x1536 8) (b : Fin 2) (ch : Fin 3) (h : Fin 2048) (w : Fin 1536) :
    pixels x b.val ch.val h.val w.val = (x (ix4 b ch h w)).toNat := by
  unfold pixels
  congr 2
  funext a
  apply Fin.ext
  match a with
  | 0 => exact Nat.mod_eq_of_lt b.isLt
  | 1 => exact Nat.mod_eq_of_lt ch.isLt
  | 2 => exact Nat.mod_eq_of_lt h.isLt
  | 3 => exact Nat.mod_eq_of_lt w.isLt

theorem pixel_value (v : BitVec 8) : (FloatOps.sitofp .f32 (BitVec.setWidth 32 v) : Ideal .f32) = ((v.toNat : ℝ) : EReal) := by
  have e : BitVec.setWidth 32 v = BitVec.ofNat 32 v.toNat := by
    apply BitVec.eq_of_toNat_eq
    simp
  rw [e, sitofp_nat _ _ (by have := v.isLt; omega)]

theorem image_apply (x : IVec S2x3x2048x1536 8) (b : Fin 2) (ch : Fin 3) (o y : Fin 392) :
    (image x : FVec Ideal S2x3x392x392 .f32) (ix4 b ch o y) = ((resized (pixels x b.val ch.val) y.val o.val : ℝ) : EReal) := by
  unfold image
  pointwise
  have inner : ∀ h : Fin 2048, (∑ w : Fin 1536, (FloatOps.sitofp .f32 (BitVec.setWidth 32 (x (ix4 b ch h w))) : Ideal .f32) * (weightsW (F := Ideal)) (ix2 o w) : EReal)
      = ((rowSum (pixels x b.val ch.val) o.val h.val : ℝ) : EReal) := by
    intro h
    unfold rowSum
    rw [← Fin.sum_univ_eq_sum_range (fun w => wt 1536 o.val w * (pixels x b.val ch.val h.val w : ℝ)) 1536, ← coe_sum]
    refine Finset.sum_congr rfl fun w _ => ?_
    rw [pixel_value, weightsW_apply, ← pixels_fin, ← EReal.coe_mul, mul_comm]
  unfold resized
  rw [← Fin.sum_univ_eq_sum_range (fun h => wt 2048 y.val h * rowSum (pixels x b.val ch.val) o.val h) 2048, ← coe_sum]
  refine Finset.sum_congr rfl fun h _ => ?_
  refine (congrArg₂ (· * ·) (inner h) (weightsH_apply y h)).trans ?_
  rw [← EReal.coe_mul, mul_comm]

theorem patches_apply (y : FVec Ideal S2x3x392x392 .f32) (b : Fin 2) (row : Fin 784) (col : Fin 588) :
    patches y (ix3 b row col) = y (ix4 b ⟨col.val / 196, by omega⟩ ⟨14 * (row.val % 28) + col.val % 14, by omega⟩
      ⟨14 * (row.val / 28) + col.val % 196 / 14, by omega⟩) := by
  have hr := row.isLt
  have hc := col.isLt
  unfold patches
  refine (shapeCast_apply _ _ _ (ValueIdx.ix6 b ⟨row.val / 28, by omega⟩ ⟨row.val % 28, by omega⟩ ⟨col.val / 196, by omega⟩
    ⟨col.val % 196 / 14, by omega⟩ ⟨col.val % 14, by omega⟩ : S2x28x28x3x14x14.Idx) ?_).trans ?_
  · rw [Shape.rowMajor_val_six, Shape.rowMajor_val_three]
    show ((((b.val * 28 + row.val / 28) * 28 + row.val % 28) * 3 + col.val / 196) * 14 + col.val % 196 / 14) * 14 + col.val % 14
      = (b.val * 784 + row.val) * 588 + col.val
    omega
  refine (transpose_apply _ _ _ _ (ValueIdx.ix6 b ⟨col.val / 196, by omega⟩ ⟨row.val % 28, by omega⟩ ⟨col.val % 14, by omega⟩
    ⟨row.val / 28, by omega⟩ ⟨col.val % 196 / 14, by omega⟩ : S2x3x28x14x28x14.Idx) ?_).trans ?_
  · intro a
    match a with
    | 0 => rfl
    | 1 => rfl
    | 2 => rfl
    | 3 => rfl
    | 4 => rfl
    | 5 => rfl
  refine shapeCast_apply _ _ _ _ ?_
  rw [Shape.rowMajor_val_six, Shape.rowMajor_val_four]
  show ((b.val * 3 + col.val / 196) * 392 + (14 * (row.val % 28) + col.val % 14)) * 392 + (14 * (row.val / 28) + col.val % 196 / 14)
    = ((((b.val * 3 + col.val / 196) * 28 + row.val % 28) * 14 + col.val % 14) * 28 + row.val / 28) * 14 + col.val % 196 / 14
  omega

end Cert.ReferenceIdeal.Val

end
-- ==== Proof.Value.Codes.lean ====
/-
  The rows of codes: every word that the second half stores is the code of its place.
-/
module

public import proofs.«01_k».proof.Proof.Value.Rows

@[expose] public section

noncomputable section

namespace Cert.KernelIdeal.Val

open Idealize.ShloMosaic Idealize.ShloMosaic.TcCoe Cert.KernelIdeal.Gen Cert.KernelIdeal Cert.Val

set_option maxRecDepth 16384

variable (S : ℕ → ℕ → ℕ → Vec Ideal S1x1x32x128 .f32) (P : ℕ → ℕ → ℕ → ℕ) (I : ℕ → FVec Ideal S32x128 .f32)

theorem ofBits_448 : Ideal.ofBits .f32 0x43E00000#32 = ((448 : ℝ) : EReal) := by
  simp [Ideal.ofBits, Ideal.ieee, -EReal.coe_mul]; norm_num

theorem ofBits_n448 : Ideal.ofBits .f32 0xC3E00000#32 = ((-448 : ℝ) : EReal) := by
  simp [Ideal.ofBits, Ideal.ieee, -EReal.coe_mul]; norm_num

theorem coe_min (a b : ℝ) : min (a : EReal) (b : EReal) = ((min a b : ℝ) : EReal) := (EReal.coe_strictMono.monotone.map_min).symm

theorem quant_apply (v inv : FVec Ideal S32x128 .f32) (i : S32x128.Idx) (a b : ℝ) (ha : v i = (a : EReal)) (hb : inv i = (b : EReal)) :
    quant v inv i = ((min 448 (max (-448) (a * b)) : ℝ) : EReal) := by
  show min (Ideal.ofBits .f32 0x43E00000#32) (max (Ideal.ofBits .f32 0xC3E00000#32) (v i * inv i)) = _
  rw [ofBits_448, ofBits_n448, ha, hb, ← EReal.coe_mul, coe_max, coe_min]

/-- What a lane of slot `g` reads: its patch row and its row of pixels. -/
theorem slot_row (half v g p : ℕ) (hh : half < 2) (hv : v < 2) (hg : g < 14) (hp : p < 7) :
    kept (2 * half + v) (16 * p + slotOf half g) = true ∧ slotRow (2 * half) (16 * p + slotOf half g) = 14 * half + g
      ∧ rowAt (2 * half + v) (16 * p + slotOf half g) = 14 * (14 * half + g) + (7 * v + p) := by
  have : half = 0 ∨ half = 1 := by omega
  have : v = 0 ∨ v = 1 := by omega
  have h : ∀ half v : Fin 2, ∀ g : Fin 14, ∀ p : Fin 7,
      kept (2 * half.val + v.val) (16 * p.val + slotOf half.val g.val) = true ∧ slotRow (2 * half.val) (16 * p.val + slotOf half.val g.val) = 14 * half.val + g.val
      ∧ rowAt (2 * half.val + v.val) (16 * p.val + slotOf half.val g.val) = 14 * (14 * half.val + g.val) + (7 * v.val + p.val) := by decide +kernel
  exact h ⟨half, hh⟩ ⟨v, hv⟩ ⟨g, hg⟩ ⟨p, hp⟩

variable (hS : Slabs S P) (hP : ∀ c h w, P c h w ≤ 255) (hI : ∀ half, half < 2 → I half = inverse (amax S half))
include hS hP hI

/-- A quantised slab in a lane of slot `g`. -/
theorem quant_slab (cc half v g p px : ℕ) (hc : cc < 3) (hh : half < 2) (hv : v < 2) (hg : g < 14) (hp : p < 7) (hx : px < 14)
    (r : Fin 32) (hr : r.val < 28) (hl : 16 * p + slotOf half g < 128) :
    quant (flat S cc (2 * half + v) px) (I half) (ix2 r ⟨16 * p + slotOf half g, hl⟩)
      = ((code P (14 * half + g) r.val cc (7 * v + p) px : ℝ) : EReal) := by
  obtain ⟨k1, k2, k3⟩ := slot_row half v g p hh hv hg hp
  have kk : kept (2 * half) (16 * p + slotOf half g) = true := by rw [← kept_half half v _ hv hh]; exact k1
  obtain ⟨hA, hR⟩ := amax_top S P hS hP half hh r ⟨_, hl⟩ hr kk
  have e1 := flat_apply S P hS cc (2 * half + v) px hc (by omega) hx r ⟨_, hl⟩ hr k1
  have e2 := inverse_apply (amax S half) _ _ hA hR
  rw [quant_apply _ _ _ _ _ e1 (by rw [hI half hh]; exact e2)]
  unfold code
  dsimp only
  rw [k2, k3]

/-- A rotated slab. -/
theorem packed_apply (cc half v g p px : ℕ) (hc : cc < 3) (hh : half < 2) (hv : v < 2) (hg : g < 14) (hp : p < 7) (hx : px < 14)
    (r : Fin 32) (hr : r.val < 28) (l : Fin 128) (hl : l.val = (16 * p + px + slotOf half g) % 128) :
    packed S I cc half v px (ix2 r l) = ((code P (14 * half + g) r.val cc (7 * v + p) px : ℝ) : EReal) := by
  have hs : slotOf half g < 15 := (slot_kept half g hh hg).2.2
  have q := quant_slab S P I hS hP hI cc half v g p px hc hh hv hg hp hx r hr (by omega)
  refine Eq.trans ?_ q
  obtain _ | px := px
  · show quant (flat S cc (2 * half + v) 0) (I half) (ix2 r l) = _
    congr 2
    exact Fin.ext (by show l.val = 16 * p + slotOf half g; omega)
  · unfold packed
    pointwise
    congr 2
    apply Fin.ext
    dsimp only
    simp only [BitVec.toNat_ofNat, show (px + 1) % 2 ^ 32 % 128 = px + 1 by omega]
    omega

/-- The merged slabs hold, in each lane, the slab of that lane's pixel column. -/
theorem merged_apply (Q : ℕ → FVec Ideal S32x128 .f32) (slot px : ℕ) (hs : slot < 15) (r : Fin 32) (l : Fin 128) (hl : l.val % 16 = (slot + px) % 16) :
    ∀ n, px ≤ n → n < 14 → merged Q slot n (ix2 r l) = Q px (ix2 r l)
  | 0, h, _ => by
    obtain rfl : px = 0 := by omega
    rfl
  | n + 1, h, hn => by
    have hres : residue (ix2 r l) = BitVec.ofNat 32 (l.val % 16) := by
      have e : residue (ix2 r l) = BitVec.ofNat 32 l.val &&& 15#32 := by
        unfold residue lane32 const
        pointwise
        rfl
      rw [e]
      have : ∀ l : Fin 128, BitVec.ofNat 32 l.val &&& 15#32 = BitVec.ofNat 32 (l.val % 16) := by decide +kernel
      exact this l
    have key : merged Q slot (n + 1) (ix2 r l) = if px = n + 1 then Q (n + 1) (ix2 r l) else merged Q slot n (ix2 r l) := by
      show Scalar.select (IntOp.cmpi .eq (residue (ix2 r l)) (BitVec.ofNat 32 ((slot + (n + 1)) % 16))) (Q (n + 1) (ix2 r l)) (merged Q slot n (ix2 r l)) = _
      rw [hres, hl]
      have : IntOp.cmpi .eq (BitVec.ofNat 32 ((slot + px) % 16)) (BitVec.ofNat 32 ((slot + (n + 1)) % 16)) = if px = n + 1 then 1#1 else 0#1 := by
        have : ∀ (slot : Fin 15) (px n : Fin 14), IntOp.cmpi .eq (BitVec.ofNat 32 ((slot.val + px.val) % 16)) (BitVec.ofNat 32 ((slot.val + n.val) % 16))
          = if px.val = n.val then 1#1 else 0#1 := by decide +kernel
        exact this ⟨slot, hs⟩ ⟨px, by omega⟩ ⟨n + 1, hn⟩
      rw [this]
      split_ifs <;> rfl
    rw [key]
    split_ifs with e
    · rw [e]
    · exact merged_apply Q slot px hs r l hl n (by omega) (by omega)

/-- The words of patch row `k`, in the lane that stands for column `t` of its channel. -/
theorem wordsOf_apply (cc k : ℕ) (hc : cc < 3) (hk : k < 28) (shift : BitVec 32) (r : Fin 32) (hr : r.val < 28) (l : Fin 128) (t : ℕ) (ht : t < 196)
    (hcol : column shift (ix2 r l) = BitVec.ofNat 32 t) :
    wordsOf S I cc k shift (ix2 r l) = ((code P k r.val cc (t / 14) (t % 14) : ℝ) : EReal) := by
  have hs : slotOf (k / 14) (k % 14) < 15 := (slot_kept (k / 14) (k % 14) (by omega) (by omega)).2.2
  have hsrc := source_apply shift r l t ht hcol _ hs
  have hv : ∀ v, v < 2 → v = t / 98 → take (merged (packed S I cc (k / 14) v) (slotOf (k / 14) (k % 14)) 13) (source shift (slotOf (k / 14) (k % 14))) (ix2 r l)
      = ((code P k r.val cc (t / 14) (t % 14) : ℝ) : EReal) := by
    intro v hv e
    rw [take_apply r l _ _ _ (by omega) hsrc,
      merged_apply S P I hS hP hI _ _ (t % 14) hs r _ (by dsimp only; omega) 13 (by omega) (by omega),
      packed_apply S P I hS hP hI cc (k / 14) v (k % 14) (t % 98 / 14) (t % 14) hc (by omega) hv (by omega) (by omega) (by omega) r hr _ rfl]
    congr 2 <;> omega
  show Scalar.select (IntOp.cmpi .eq (second shift (ix2 r l)) 1#32) _ _ = _
  rw [second_apply shift r l t ht hcol]
  have : t / 98 = 0 ∨ t / 98 = 1 := by omega
  rcases this with e | e
  · rw [e]
    exact hv 0 (by decide) e.symm
  · rw [e]
    exact hv 1 (by decide) e.symm

end Cert.KernelIdeal.Val

end
-- ==== Proof.Value.EpilogueRun.lean ====
/-
  The run of the second half of the body finds the values of `EpilogueModel`.
-/
module

public import proofs.«01_k».proof.Proof.Value.EpilogueModel

@[expose] public section

noncomputable section

namespace Cert.KernelIdeal.Val

open Idealize.ShloMosaic Idealize.ShloMosaic.TcCoe Cert.KernelIdeal.Gen Cert.KernelIdeal

variable {F : FTy → Type} [FloatOps F] [Named F]

variable (c : Dev nD) (M5 : Memref sig .tc .vmem S1x784x588 .fp8e4m3) (M6 : Memref sig .tc .vmem S1x1x784 .f32)
  (M8 : Memref sig .tc .vmem S3x4x448x128 .f32) (M9 : Memref sig .tc .vmem S5x800x128 .f32)
  (g8 : Bf (F := F) c M8) (f9 : Bf (F := F) c M9)

/-- The scratch `v` with the rows past the last output set to zero. -/
def padded : Bf (F := F) c M8 := M8.view.writes (Elt F) g8 epilogueRun.sl.H8_12

set_option maxRecDepth 65536 in
set_option maxHeartbeats 4000000 in
theorem amax0_eq : epilogueRun.sl.v1178 c M8 g8 = amax (slab c M8 (padded c M8 g8)) 0 := rfl

set_option maxRecDepth 65536 in
set_option maxHeartbeats 4000000 in
theorem inv0_eq : epilogueRun.sl.v1248 c M8 g8 = inverse (amax (slab c M8 (padded c M8 g8)) 0) := rfl

set_option maxRecDepth 65536 in
set_option maxHeartbeats 4000000 in
theorem inv1_eq : epilogueRun.sl.v1681 c M8 g8 = inverse (amax (slab c M8 (padded c M8 g8)) 1) := rfl

/-- The largest magnitudes and the inverse scales of the two halves. -/
def largest (h : ℕ) : FVec F S32x128 .f32 := amax (slab c M8 (padded c M8 g8)) h
def inverses : ℕ → FVec F S32x128 .f32
  | 0 => epilogueRun.sl.v1248 c M8 g8
  | _ + 1 => epilogueRun.sl.v1681 c M8 g8

set_option maxRecDepth 65536 in
set_option maxHeartbeats 4000000 in
theorem words_eq : epilogueRun.sl.H9_196 c M8 g8 = pieces2 (slab c M8 (padded c M8 g8)) (inverses c M8 g8) 28 := rfl

set_option maxRecDepth 65536 in
set_option maxHeartbeats 4000000 in
theorem scales_eq : epilogueRun.sl.H6_1 c M8 g8
    = [⟨Rect.unit (s := S1x1x784) ![0, 0, 0] S1x1x784.size inb_S1x1x784_S1x1x784_0_0_0, scales (largest c M8 g8) concatenates_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x784_d1⟩] := rfl

/-- The block `n` of words, whole. -/
def block (f : Bf (F := F) c M9) (n : ℕ) : Vec F S1x800x128 .f32 :=
  View.readAt (Elt F) M9.view (Rect.unit (s := S5x800x128) ![n % 5, 0, 0] S1x800x128.size (by
    intro a
    match a with
    | 0 => show n % 5 + 1 ≤ 5; omega
    | 1 => exact Nat.le_refl 800
    | 2 => exact Nat.le_refl 128)).toLoadRect f

/-- The store of the first `w` lanes of block `n` as codes. -/
def codePiece (f : Bf (F := F) c M9) (n w : ℕ) (hn : 128 * n + w ≤ 588) (hw : w ≤ 128) : View.Piece (Elt F) S1x784x588 .fp8e4m3 :=
  ⟨Rect.unit (s := S1x784x588) ![0, 0, 128 * n] ![1, 784, w] (by
    intro a
    match a with
    | 0 => exact Nat.le_refl 1
    | 1 => exact Nat.le_refl 784
    | 2 => exact hn),
   shapeCast ⟨3, ![1, 784, w]⟩
     (extractStridedSlice ⟨2, ![784, w]⟩ ![0, 0]
       (truncf .fp8e4m3 (shapeCast S800x128 (block c M9 f n) shapeCasts_S1x800x128_S800x128 : FVec F S800x128 .f32) bitsLt_fp8e4m3_f32)
       ⟨rfl, Fin.forall_fin_two.2 ⟨by show 0 + 784 ≤ 800; omega, by show 0 + w ≤ 128; omega⟩⟩)
     (by simp [Shape.ShapeCasts, Shape.numel, Fin.prod_univ_succ])⟩

/-- The words after all stores. -/
def stored9 : Bf (F := F) c M9 := M9.view.writes (Elt F) f9 (epilogueRun.sl.H9_196 c M8 g8)

set_option maxRecDepth 65536 in
set_option maxHeartbeats 4000000 in
theorem codes_eq : epilogueRun.sl.H5_5 c M8 M9 g8 f9
    = [codePiece c M9 (stored9 c M8 M9 g8 f9) 4 76 (by decide) (by decide), codePiece c M9 (stored9 c M8 M9 g8 f9) 3 128 (by decide) (by decide),
       codePiece c M9 (stored9 c M8 M9 g8 f9) 2 128 (by decide) (by decide), codePiece c M9 (stored9 c M8 M9 g8 f9) 1 128 (by decide) (by decide),
       codePiece c M9 (stored9 c M8 M9 g8 f9) 0 128 (by decide) (by decide)] := rfl

end Cert.KernelIdeal.Val

end
-- ==== Proof.Value.Words.lean ====
/-
  The words and the codes that the second half stores, at an index.
-/
module

public import proofs.«01_k».proof.Proof.Value.Codes
public import proofs.«01_k».proof.Proof.Value.EpilogueRun

@[expose] public section

noncomputable section

namespace Cert.KernelIdeal.Val

open Idealize.ShloMosaic Idealize.ShloMosaic.TcCoe Cert.KernelIdeal.Gen Cert.KernelIdeal Cert.Val

set_option maxRecDepth 16384

variable (S : ℕ → ℕ → ℕ → Vec Ideal S1x1x32x128 .f32) (P : ℕ → ℕ → ℕ → ℕ) (I : ℕ → FVec Ideal S32x128 .f32)

/-- The code in a row and a column of the result. -/
def codeAt (row col : ℕ) : ℝ := code P (row / 28) (row % 28) (col / 196) (col % 196 / 14) (col % 14)

/-- The word at a place of the scratch. -/
def word (x : S5x800x128.Idx) : EReal := ((codeAt P (x 1).val (128 * (x 0).val + (x 2).val) : ℝ) : EReal)

/-- A store that leaves the words as they should be. -/
def Good (p : View.Piece (Elt Ideal) S5x800x128 .f32) : Prop := ∀ x, p.2 x = word P (p.1.emb x)

/-- The lanes of a store stand for the columns of the result. -/
def Cols (cc n lo w : ℕ) (shift : BitVec 32) : Prop :=
  ∀ l : Fin 128, lo ≤ l.val → l.val < lo + w → 196 * cc ≤ 128 * n + l.val ∧ 128 * n + l.val - 196 * cc < 196
    ∧ IntOp.minsi 195#32 (IntOp.maxsi 0#32 (BitVec.ofNat 32 l.val + shift)) = BitVec.ofNat 32 (128 * n + l.val - 196 * cc)

instance (cc n lo w : ℕ) (shift : BitVec 32) : Decidable (Cols cc n lo w shift) := by unfold Cols; infer_instance

section
variable (hS : Slabs S P) (hP : ∀ c h w, P c h w ≤ 255) (hI : ∀ half, half < 2 → I half = inverse (amax S half))
include hS hP hI

set_option maxHeartbeats 2000000 in
theorem wordPiece_good (cc n lo w : ℕ) (hc : cc < 3) (shift : BitVec 32) (hn : n < 5) (hw : lo + w ≤ 128) (k : ℕ) (hk : k < 28)
    (h : Cols cc n lo w shift) : Good P (wordPiece S I cc n lo w shift hn hw k) := by
  intro x
  have h0 : (x 0).val < 1 := (x 0).isLt
  have h1 : (x 1).val < 28 := (x 1).isLt
  have h2 : (x 2).val < w := (x 2).isLt
  obtain ⟨c1, c2, c3⟩ := h ⟨lo + (x 2).val, by omega⟩ (by dsimp only; omega) (by dsimp only; omega)
  have e := wordsOf_apply S P I hS hP hI cc k hc hk shift ⟨(x 1).val, by omega⟩ h1 ⟨lo + (x 2).val, by omega⟩ _ c2
    ((column_apply _ _ _).trans c3)
  have hx : x = (ix3 0 ⟨(x 1).val, h1⟩ ⟨(x 2).val, h2⟩ : (⟨3, ![1, 28, w]⟩ : Shape).Idx) := by
    funext b
    apply Fin.ext
    match b with
    | 0 => show (x 0).val = 0; omega
    | 1 => rfl
    | 2 => rfl
  have v : (wordPiece S I cc n lo w shift hn hw k).2 x = wordsOf S I cc k shift (ix2 ⟨(x 1).val, by omega⟩ ⟨lo + (x 2).val, by omega⟩) := by
    refine (congrArg (wordPiece S I cc n lo w shift hn hw k).2 hx).trans ?_
    unfold wordPiece
    dsimp only
    rw [ix3_eq_valueIdx]
    erw [ValueIdx.shapeCast_ab_1ab_apply]
    rw [← ix2_eq_valueIdx]
    show wordsOf S I cc k shift _ = _
    congr 1
    funext b
    apply Fin.ext
    match b with
    | 0 => show 0 + (x 1).val = (x 1).val; omega
    | 1 => rfl
  rw [v, e]
  have er : ((wordPiece S I cc n lo w shift hn hw k).1.emb x 1).val = 28 * k + (x 1).val := by
    show 28 * (k % 28) + 1 * (x 1).val = _
    omega
  have e0 : ((wordPiece S I cc n lo w shift hn hw k).1.emb x 0).val = n := by
    show n + 1 * (x 0).val = _
    omega
  have e2 : ((wordPiece S I cc n lo w shift hn hw k).1.emb x 2).val = lo + (x 2).val := by
    show lo + 1 * (x 2).val = _
    omega
  unfold word codeAt
  rw [er, e0, e2]
  dsimp only at c1 c2 ⊢
  congr 2 <;> omega

theorem pieces0_good : ∀ k, k ≤ 28 → ∀ p ∈ pieces0 S I k, Good P p
  | 0, _, p, hp => absurd hp (by simp [pieces0])
  | k + 1, hk, p, hp => by
    simp only [pieces0, List.mem_cons] at hp
    rcases hp with rfl | rfl | hp
    · exact wordPiece_good S P I hS hP hI _ _ _ _ (by decide) _ _ _ k (by omega) (by decide +kernel)
    · exact wordPiece_good S P I hS hP hI _ _ _ _ (by decide) _ _ _ k (by omega) (by decide +kernel)
    · exact pieces0_good k (by omega) p hp

theorem pieces1_good : ∀ k, k ≤ 28 → ∀ p ∈ pieces1 S I k, Good P p
  | 0, _, p, hp => pieces0_good S P I hS hP hI 28 (by decide) p hp
  | k + 1, hk, p, hp => by
    simp only [pieces1, List.mem_cons] at hp
    rcases hp with rfl | rfl | rfl | hp
    · exact wordPiece_good S P I hS hP hI _ _ _ _ (by decide) _ _ _ k (by omega) (by decide +kernel)
    · exact wordPiece_good S P I hS hP hI _ _ _ _ (by decide) _ _ _ k (by omega) (by decide +kernel)
    · exact wordPiece_good S P I hS hP hI _ _ _ _ (by decide) _ _ _ k (by omega) (by decide +kernel)
    · exact pieces1_good k (by omega) p hp

theorem pieces2_good : ∀ k, k ≤ 28 → ∀ p ∈ pieces2 S I k, Good P p
  | 0, _, p, hp => pieces1_good S P I hS hP hI 28 (by decide) p hp
  | k + 1, hk, p, hp => by
    simp only [pieces2, List.mem_cons] at hp
    rcases hp with rfl | rfl | hp
    · exact wordPiece_good S P I hS hP hI _ _ _ _ (by decide) _ _ _ k (by omega) (by decide +kernel)
    · exact wordPiece_good S P I hS hP hI _ _ _ _ (by decide) _ _ _ k (by omega) (by decide +kernel)
    · exact pieces2_good k (by omega) p hp

end

/-! ## Every place is stored -/

theorem mem_pieces0 (j : ℕ) : ∀ k, j < k → wordPiece S I 0 1 0 68 128#32 (by decide) (by decide) j ∈ pieces0 S I k
    ∧ wordPiece S I 0 0 0 128 0#32 (by decide) (by decide) j ∈ pieces0 S I k
  | k + 1, h => by
    simp only [pieces0, List.mem_cons]
    rcases Nat.lt_succ_iff_lt_or_eq.1 h with h | rfl
    · exact ⟨.inr (.inr (mem_pieces0 j k h).1), .inr (.inr (mem_pieces0 j k h).2)⟩
    · exact ⟨.inl rfl, .inr (.inl rfl)⟩

theorem mem_pieces1 (j : ℕ) : ∀ k, j < k → wordPiece S I 1 3 0 8 188#32 (by decide) (by decide) j ∈ pieces1 S I k
    ∧ wordPiece S I 1 2 0 128 60#32 (by decide) (by decide) j ∈ pieces1 S I k
    ∧ wordPiece S I 1 1 68 60 4294967228#32 (by decide) (by decide) j ∈ pieces1 S I k
  | k + 1, h => by
    simp only [pieces1, List.mem_cons]
    rcases Nat.lt_succ_iff_lt_or_eq.1 h with h | rfl
    · exact ⟨.inr (.inr (.inr (mem_pieces1 j k h).1)), .inr (.inr (.inr (mem_pieces1 j k h).2.1)), .inr (.inr (.inr (mem_pieces1 j k h).2.2))⟩
    · exact ⟨.inl rfl, .inr (.inl rfl), .inr (.inr (.inl rfl))⟩

theorem mem_pieces2 (j : ℕ) : ∀ k, j < k → wordPiece S I 2 4 0 76 120#32 (by decide) (by decide) j ∈ pieces2 S I k
    ∧ wordPiece S I 2 3 8 120 4294967288#32 (by decide) (by decide) j ∈ pieces2 S I k
  | k + 1, h => by
    simp only [pieces2, List.mem_cons]
    rcases Nat.lt_succ_iff_lt_or_eq.1 h with h | rfl
    · exact ⟨.inr (.inr (mem_pieces2 j k h).1), .inr (.inr (mem_pieces2 j k h).2)⟩
    · exact ⟨.inl rfl, .inr (.inl rfl)⟩

theorem pieces0_sub (p) (h : p ∈ pieces0 S I 28) : ∀ k, p ∈ pieces1 S I k
  | 0 => h
  | k + 1 => List.mem_cons_of_mem _ (List.mem_cons_of_mem _ (List.mem_cons_of_mem _ (pieces0_sub p h k)))

theorem pieces1_sub (p) (h : p ∈ pieces1 S I 28) : ∀ k, p ∈ pieces2 S I k
  | 0 => h
  | k + 1 => List.mem_cons_of_mem _ (List.mem_cons_of_mem _ (pieces1_sub p h k))

theorem mem_wordPiece (cc n lo w : ℕ) (shift : BitVec 32) (hn : n < 5) (hw : lo + w ≤ 128) (q : Fin 5) (r : Fin 800) (l : Fin 128) (hr : r.val < 784)
    (hq : q.val = n) (h1 : lo ≤ l.val) (h2 : l.val < lo + w) :
    ix3 q r l ∈ (wordPiece S I cc n lo w shift hn hw (r.val / 28)).1.set := by
  refine (Rect.mem_set_unit (inb := (by
    intro a
    match a with
    | 0 => show n + 1 ≤ 5; omega
    | 1 => show 28 * (r.val / 28 % 28) + 28 ≤ 800; omega
    | 2 => exact hw))).2 fun a => ?_
  match a with
  | 0 => show n ≤ q.val ∧ q.val < n + 1; omega
  | 1 => show 28 * (r.val / 28 % 28) ≤ r.val ∧ r.val < 28 * (r.val / 28 % 28) + 28; omega
  | 2 => exact ⟨h1, h2⟩

theorem covered (q : Fin 5) (r : Fin 800) (l : Fin 128) (hr : r.val < 784) (hc : 128 * q.val + l.val < 588) :
    ∃ p ∈ pieces2 S I 28, ix3 q r l ∈ p.1.set := by
  have hk : r.val / 28 < 28 := by omega
  obtain ⟨a1, a2⟩ := mem_pieces0 S I _ 28 hk
  obtain ⟨b1, b2, b3⟩ := mem_pieces1 S I _ 28 hk
  obtain ⟨c1, c2⟩ := mem_pieces2 S I _ 28 hk
  have up := fun p h => pieces1_sub S I p (pieces0_sub S I p h 28) 28
  have up' := fun p h => pieces1_sub S I p h 28
  have : q.val = 0 ∨ (q.val = 1 ∧ l.val < 68) ∨ (q.val = 1 ∧ 68 ≤ l.val) ∨ q.val = 2 ∨ (q.val = 3 ∧ l.val < 8) ∨ (q.val = 3 ∧ 8 ≤ l.val) ∨ (q.val = 4 ∧ l.val < 76) := by
    omega
  rcases this with h | ⟨h, h'⟩ | ⟨h, h'⟩ | h | ⟨h, h'⟩ | ⟨h, h'⟩ | ⟨h, h'⟩
  · exact ⟨_, up _ a2, mem_wordPiece S I _ _ _ _ _ _ _ q r l hr h (by omega) (by omega)⟩
  · exact ⟨_, up _ a1, mem_wordPiece S I _ _ _ _ _ _ _ q r l hr h (by omega) (by omega)⟩
  · exact ⟨_, up' _ b3, mem_wordPiece S I _ _ _ _ _ _ _ q r l hr h (by omega) (by omega)⟩
  · exact ⟨_, up' _ b2, mem_wordPiece S I _ _ _ _ _ _ _ q r l hr h (by omega) (by omega)⟩
  · exact ⟨_, up' _ b1, mem_wordPiece S I _ _ _ _ _ _ _ q r l hr h (by omega) (by omega)⟩
  · exact ⟨_, c2, mem_wordPiece S I _ _ _ _ _ _ _ q r l hr h (by omega) (by omega)⟩
  · exact ⟨_, c1, mem_wordPiece S I _ _ _ _ _ _ _ q r l hr h (by omega) (by omega)⟩

/-! ## The results of the second half -/

variable (c : Dev nD) (M5 : Memref sig .tc .vmem S1x784x588 .fp8e4m3) (M6 : Memref sig .tc .vmem S1x1x784 .f32)
  (M8 : Memref sig .tc .vmem S3x4x448x128 .f32) (M9 : Memref sig .tc .vmem S5x800x128 .f32)
  (g8 : Bf (F := Ideal) c M8) (f5 : Bf (F := Ideal) c M5) (f6 : Bf (F := Ideal) c M6) (f9 : Bf (F := Ideal) c M9)
  (hS : Slabs (slab c M8 (padded c M8 g8)) P) (hP : ∀ c h w, P c h w ≤ 255)

theorem inverses_eq (half : ℕ) (h : half < 2) : inverses c M8 g8 half = inverse (amax (slab c M8 (padded c M8 g8)) half) := by
  have : half = 0 ∨ half = 1 := by omega
  rcases this with rfl | rfl
  · exact inv0_eq c M8 g8
  · exact inv1_eq c M8 g8

include hS hP

theorem stored9_read (q : Fin 5) (r : Fin 800) (l : Fin 128) (hr : r.val < 784) (hc : 128 * q.val + l.val < 588) :
    M9.view.read (Elt Ideal) (stored9 c M8 M9 g8 f9) (ix3 q r l) = ((codeAt P r.val (128 * q.val + l.val) : ℝ) : EReal) := by
  unfold stored9
  rw [words_eq, View.read_writes_apply_of_pieces M9.view f9 (word P)
    (pieces2 (slab c M8 (padded c M8 g8)) (inverses c M8 g8) 28)
    (pieces2_good _ P _ hS hP (inverses_eq c M8 g8) 28 (by decide)) _ (covered _ _ q r l hr hc)]
  rfl

/-- The rows of scales that the second half stores. -/
theorem scales_read (k : Fin 784) :
    M6.view.read (Elt Ideal) (M6.view.writes (Elt Ideal) f6 (epilogueRun.sl.H6_1 c M8 g8)) (ix3 0 0 k)
      = ((scaleOf P (k.val / 28) (k.val % 28) : ℝ) : EReal) := by
  rw [scales_eq, View.read_writes_apply_of_pieces M6.view f6 (fun x => ((scaleOf P ((x 2).val / 28) ((x 2).val % 28) : ℝ) : EReal))]
  · rfl
  · intro p hp x
    rw [List.mem_singleton] at hp
    subst hp
    have hx : x = (ix3 0 0 ⟨(x 2).val, (x 2).isLt⟩ : S1x1x784.Idx) := by
      have h0 : (x 0).val < 1 := (x 0).isLt
      have h1 : (x 1).val < 1 := (x 1).isLt
      funext b
      apply Fin.ext
      match b with
      | 0 => show (x 0).val = 0; omega
      | 1 => show (x 1).val = 0; omega
      | 2 => rfl
    have key : ∀ h, scales (largest c M8 g8) h x = ((scaleOf P ((0 + 1 * (x 2).val) / 28) ((0 + 1 * (x 2).val) % 28) : ℝ) : EReal) := by
      intro h
      rw [Nat.zero_add, Nat.one_mul]
      exact (congrArg (scales (largest c M8 g8) h) hx).trans (scales_apply _ P hS hP (largest c M8 g8) (fun _ _ => rfl) _ _)
    exact key concatenates_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x28_S1x784_d1
  · refine ⟨_, List.mem_singleton.2 rfl, (Rect.mem_set_unit (inb := inb_S1x1x784_S1x1x784_0_0_0)).2 fun a => ?_⟩
    match a with
    | 0 => show 0 ≤ 0 ∧ 0 < 0 + 1; omega
    | 1 => show 0 ≤ 0 ∧ 0 < 0 + 1; omega
    | 2 => show 0 ≤ k.val ∧ k.val < 0 + 784; omega

/-- The rows of codes that the second half stores. -/
theorem codes_read (row : Fin 784) (col : Fin 588) :
    M5.view.read (Elt Ideal) (M5.view.writes (Elt Ideal) f5 (epilogueRun.sl.H5_5 c M8 M9 g8 f9)) (ix3 0 row col)
      = ((codeAt P row.val col.val : ℝ) : EReal) := by
  have good : ∀ (n w : ℕ) (hn : 128 * n + w ≤ 588) (hw : w ≤ 128) (h5 : n < 5) x,
      (codePiece c M9 (stored9 c M8 M9 g8 f9) n w hn hw).2 x
        = (fun x : S1x784x588.Idx => ((codeAt P (x 1).val (x 2).val : ℝ) : EReal)) ((codePiece c M9 (stored9 c M8 M9 g8 f9) n w hn hw).1.emb x) := by
    intro n w hn hw h5 x
    have h0 : (x 0).val < 1 := (x 0).isLt
    have h1 : (x 1).val < 784 := (x 1).isLt
    have h2 : (x 2).val < w := (x 2).isLt
    have e := stored9_read P c M8 M9 g8 f9 hS hP ⟨n, h5⟩ ⟨(x 1).val, by omega⟩ ⟨(x 2).val, by omega⟩ h1 (by dsimp only; omega)
    have hx : x = (ix3 0 ⟨(x 1).val, h1⟩ ⟨(x 2).val, h2⟩ : (⟨3, ![1, 784, w]⟩ : Shape).Idx) := by
      funext b
      apply Fin.ext
      match b with
      | 0 => show (x 0).val = 0; omega
      | 1 => rfl
      | 2 => rfl
    have v : (codePiece c M9 (stored9 c M8 M9 g8 f9) n w hn hw).2 x
        = M9.view.read (Elt Ideal) (stored9 c M8 M9 g8 f9) (ix3 ⟨n, h5⟩ ⟨(x 1).val, by omega⟩ ⟨(x 2).val, by omega⟩) := by
      refine (congrArg (codePiece c M9 (stored9 c M8 M9 g8 f9) n w hn hw).2 hx).trans ?_
      unfold codePiece
      dsimp only
      rw [ix3_eq_valueIdx]
      erw [ValueIdx.shapeCast_ab_1ab_apply]
      rw [← ix2_eq_valueIdx]
      show shapeCast S800x128 (block c M9 (stored9 c M8 M9 g8 f9) n) shapeCasts_S1x800x128_S800x128 _ = _
      refine Eq.trans (b := shapeCast S800x128 (block c M9 (stored9 c M8 M9 g8 f9) n) shapeCasts_S1x800x128_S800x128 (ix2 ⟨(x 1).val, by omega⟩ ⟨(x 2).val, by omega⟩)) ?_ ?_
      · congr 1
        funext b
        apply Fin.ext
        match b with
        | 0 => show 0 + (x 1).val = (x 1).val; omega
        | 1 => show 0 + (x 2).val = (x 2).val; omega
      · pointwise
        unfold block
        show M9.view.read (Elt Ideal) _ _ = _
        congr 1
        funext b
        apply Fin.ext
        match b with
        | 0 => show n % 5 + 1 * 0 = n; omega
        | 1 => show 0 + 1 * (x 1).val = (x 1).val; omega
        | 2 => show 0 + 1 * (x 2).val = (x 2).val; omega
    rw [v, e]
    show _ = ((codeAt P (0 + 1 * (x 1).val) (128 * n + 1 * (x 2).val) : ℝ) : EReal)
    simp only [Nat.zero_add, Nat.one_mul]
  have mem : ∀ (n w : ℕ) (hn : 128 * n + w ≤ 588) (hw : w ≤ 128), 128 * n ≤ col.val → col.val < 128 * n + w →
      ix3 0 row col ∈ (codePiece c M9 (stored9 c M8 M9 g8 f9) n w hn hw).1.set := by
    intro n w hn hw h1 h2
    refine (Rect.mem_set_unit (inb := (by
      intro a
      match a with
      | 0 => exact Nat.le_refl 1
      | 1 => exact Nat.le_refl 784
      | 2 => exact hn))).2 fun a => ?_
    match a with
    | 0 => show 0 ≤ 0 ∧ 0 < 0 + 1; omega
    | 1 => show 0 ≤ row.val ∧ row.val < 0 + 784; omega
    | 2 => exact ⟨h1, h2⟩
  rw [codes_eq, View.read_writes_apply_of_pieces M5.view f5 (fun x => ((codeAt P (x 1).val (x 2).val : ℝ) : EReal))]
  · rfl
  · intro p hp
    simp only [List.mem_cons, List.not_mem_nil, or_false] at hp
    rcases hp with rfl | rfl | rfl | rfl | rfl
    all_goals exact good _ _ _ _ (by decide)
  · have hcol := col.isLt
    have : (col.val / 128 = 4 ∧ col.val < 588) ∨ col.val / 128 = 3 ∨ col.val / 128 = 2 ∨ col.val / 128 = 1 ∨ col.val / 128 = 0 := by omega
    simp only [List.mem_cons, List.not_mem_nil, or_false, exists_eq_or_imp, exists_eq_left]
    rcases this with ⟨h, _⟩ | h | h | h | h
    · exact .inl (mem _ _ _ _ (by omega) (by omega))
    · exact .inr (.inl (mem _ _ _ _ (by omega) (by omega)))
    · exact .inr (.inr (.inl (mem _ _ _ _ (by omega) (by omega))))
    · exact .inr (.inr (.inr (.inl (mem _ _ _ _ (by omega) (by omega)))))
    · exact .inr (.inr (.inr (.inr (mem _ _ _ _ (by omega) (by omega)))))

end Cert.KernelIdeal.Val

end
-- ==== Proof.Value.RefQuant.lean ====
/-
  The reference's quantiser at an index: from the resized patches, the codes and the scales.
-/
module

public import proofs.«01_k».proof.Proof.Value.RefHost
public import proofs.«01_k».proof.Proof.Value.Words

@[expose] public section

noncomputable section

namespace Cert.ReferenceIdeal.Val

open Idealize.ShloMosaic Idealize.ShloMosaic.TcCoe Cert.ReferenceIdeal.Gen Cert.ReferenceIdeal Cert.Val

set_option maxRecDepth 16384

/-! ## Scalars -/

theorem ofBits_255 : Ideal.ofBits .f32 1132396544#32 = ((255 : ℝ) : EReal) := by
  simp [Ideal.ofBits, Ideal.ieee, -EReal.coe_mul]; norm_num
theorem ofBits_448 : Ideal.ofBits .f32 1138753536#32 = ((448 : ℝ) : EReal) := by
  simp [Ideal.ofBits, Ideal.ieee, -EReal.coe_mul]; norm_num
theorem ofBits_n448 : Ideal.ofBits .f32 3286237184#32 = ((-448 : ℝ) : EReal) := by
  simp [Ideal.ofBits, Ideal.ieee, -EReal.coe_mul]; norm_num
theorem ofBits_two : Ideal.ofBits .f32 1073741824#32 = ((2 : ℝ) : EReal) := by
  simp [Ideal.ofBits, Ideal.ieee, -EReal.coe_mul]; norm_num
theorem ofBits_bot : Ideal.ofBits .f32 4286578688#32 = (⊥ : EReal) := by
  simp [Ideal.ofBits, Ideal.ieee]

theorem coe_min (a b : ℝ) : min (a : EReal) (b : EReal) = ((min a b : ℝ) : EReal) := (EReal.coe_strictMono.monotone.map_min).symm

theorem log_coe (x : ℝ) (h : 0 < x) : Ideal.log (x : EReal) = ((Real.log x : ℝ) : EReal) := by
  show (if x ≤ 0 then (⊥ : EReal) else ((Real.log x : ℝ) : EReal)) = _
  rw [if_neg (not_le.2 h)]

theorem exp2_int (n : ℤ) : (FloatOps.exp2 (((n : ℝ) : EReal) : Ideal .f32) : Ideal .f32) = (((2 : ℝ) ^ n : ℝ) : EReal) := by
  show (((Real.rpow 2 (n : ℝ)) : ℝ) : EReal) = _
  congr 1
  exact Real.rpow_intCast 2 n

/-- The largest of a row of magnitudes. -/
theorem fold_greatest (f : Fin 196 → Ideal .f32) (g : Fin 196 → ℝ) (hf : ∀ j, f j = ((g j : ℝ) : EReal)) :
    ∃ A : ℝ, Finset.fold max (Ideal.ofBits .f32 4286578688#32) (fun x => (FloatOps.absf (f x) : Ideal .f32)) Finset.univ = (A : EReal)
      ∧ IsGreatest {x | ∃ j, x = |g j|} A := by
  obtain ⟨x₀, _, h₀⟩ := Finset.exists_max_image (Finset.univ : Finset (Fin 196)) (fun j => |g j|) ⟨0, Finset.mem_univ 0⟩
  refine ⟨|g x₀|, le_antisymm ?_ ?_, ⟨x₀, rfl⟩, ?_⟩
  · refine (Finset.fold_max_le _).2 ⟨by rw [ofBits_bot]; exact bot_le, fun j hj => ?_⟩
    rw [hf j, absf_coe]
    exact EReal.coe_le_coe_iff.2 (h₀ j hj)
  · refine (Finset.le_fold_max _).2 (.inr ⟨x₀, Finset.mem_univ _, ?_⟩)
    rw [hf x₀, absf_coe]
  · rintro x ⟨j, rfl⟩
    exact h₀ j (Finset.mem_univ j)

/-! ## The normalised channels -/

/-- The normalised value `j` of channel `c` of a patch. -/
def cell (P : ℕ → ℕ → ℕ → ℕ) (row c j : ℕ) : ℝ := normed c (P c) (14 * (row / 28) + j / 14) (14 * (row % 28) + j % 14)

/-- The patches hold the resized image. -/
def Resized (P : ℕ → ℕ → ℕ → ℕ → ℕ) (Y : Vec Ideal S2x784x588 .f32) : Prop :=
  ∀ (b : Fin 2) (row : Fin 784) (c j : ℕ) (_ : c < 3) (hj : j < 196) (h : 196 * c + j < 588),
    Y (ix3 b row ⟨196 * c + j, h⟩) = ((resized (P b.val c) (14 * (row.val / 28) + j / 14) (14 * (row.val % 28) + j % 14) : ℝ) : EReal)

theorem normal_scalar (x mn sd : ℝ) (h : sd ≠ 0) (M S : EReal) (hM : M = (mn : EReal)) (hS : S = (sd : EReal)) :
    Ideal.div (Ideal.div (x : EReal) (Ideal.ofBits .f32 1132396544#32) - M) S = (((x / 255 - mn) / sd : ℝ) : EReal) := by
  rw [ofBits_255, Ideal.div_coe (by norm_num), hM, hS, ← EReal.coe_mul, ← EReal.coe_sub, Ideal.div_coe h, ← EReal.coe_mul,
    mul_one_div, mul_one_div]

variable (P : ℕ → ℕ → ℕ → ℕ → ℕ) (Y : Vec Ideal S2x784x588 .f32) (hY : Resized P Y)

section
include hY

theorem pay2_apply (b : Fin 2) (r : Fin 784) (j : Fin 196) : k0_pay2 (View.ld Y r0_0) (ix3 b r j) = ((cell (P b.val) r.val 0 j.val : ℝ) : EReal) := by
  unfold k0_pay2
  pointwise
  have hj := j.isLt
  have e := hY b r 0 j.val (by decide) hj (by omega)
  have e0 : (⟨196 * 0 + j.val, by omega⟩ : Fin 588) = ⟨j.val, by omega⟩ := Fin.ext (by dsimp only; omega)
  rw [e0] at e
  rw [e, normal_scalar _ (24072733 / 50000000) (13431477 / 50000000) (by norm_num) _ _
    (IdealRules.named_const.ideal_named_scalar _ _ _ _ rfl) (IdealRules.named_const.ideal_named_scalar _ _ _ _ rfl)]
  unfold cell normed mean dev
  simp

theorem pay3_apply (b : Fin 2) (r : Fin 784) (j : Fin 196) : k0_pay3 (View.ld Y r0_1) (ix3 b r j) = ((cell (P b.val) r.val 1 j.val : ℝ) : EReal) := by
  unfold k0_pay3
  pointwise
  have hj := j.isLt
  have e := hY b r 1 j.val (by decide) hj (by omega)
  have e0 : (⟨196 * 1 + j.val, by omega⟩ : Fin 588) = ⟨196 + j.val, by omega⟩ := Fin.ext (by dsimp only)
  rw [e0] at e
  rw [e, normal_scalar _ (183131 / 400000) (13065129 / 50000000) (by norm_num) _ _
    (IdealRules.named_const.ideal_named_scalar _ _ _ _ rfl) (IdealRules.named_const.ideal_named_scalar _ _ _ _ rfl)]
  unfold cell normed mean dev
  simp

theorem pay4_apply (b : Fin 2) (r : Fin 784) (j : Fin 196) : k0_pay4 (View.ld Y r0_2) (ix3 b r j) = ((cell (P b.val) r.val 2 j.val : ℝ) : EReal) := by
  unfold k0_pay4
  pointwise
  have hj := j.isLt
  have e := hY b r 2 j.val (by decide) hj (by omega)
  have e0 : (⟨196 * 2 + j.val, by omega⟩ : Fin 588) = ⟨392 + j.val, by omega⟩ := Fin.ext (by dsimp only)
  rw [e0] at e
  rw [e, normal_scalar _ (40821073 / 100000000) (27577711 / 100000000) (by norm_num) _ _
    (IdealRules.named_const.ideal_named_scalar _ _ _ _ rfl) (IdealRules.named_const.ideal_named_scalar _ _ _ _ rfl)]
  unfold cell normed mean dev
  simp

/-! ## The largest magnitude and the exponent -/

theorem pay14_greatest (b : Fin 2) (r : Fin 784) :
    ∃ A : ℝ, k0_pay14 Y (ix2 b r) = (A : EReal) ∧ IsGreatest (patch (P b.val) (r.val / 28) (r.val % 28)) A := by
  obtain ⟨A₀, e₀, g₀⟩ := fold_greatest _ _ (pay2_apply P Y hY b r)
  obtain ⟨A₁, e₁, g₁⟩ := fold_greatest _ _ (pay3_apply P Y hY b r)
  obtain ⟨A₂, e₂, g₂⟩ := fold_greatest _ _ (pay4_apply P Y hY b r)
  refine ⟨max (max A₀ A₁) A₂, ?_, ?_⟩
  · unfold k0_pay14 k0_pay5
    pointwise
    rw [e₀, e₁, e₂]
    have h0 : (0 : ℝ) ≤ A₀ := by
      obtain ⟨j, hj⟩ := g₀.1
      rw [hj]
      exact abs_nonneg _
    rw [show (0 : EReal) = ((0 : ℝ) : EReal) by rfl, coe_max, coe_max, coe_max, max_eq_right h0]
  · have hset : patch (P b.val) (r.val / 28) (r.val % 28)
        = ({x | ∃ j : Fin 196, x = |cell (P b.val) r.val 0 j.val|} ∪ {x | ∃ j : Fin 196, x = |cell (P b.val) r.val 1 j.val|})
          ∪ {x | ∃ j : Fin 196, x = |cell (P b.val) r.val 2 j.val|} := ?_
    · rw [hset]
      exact (g₀.union g₁).union g₂
    apply Set.ext
    intro x
    constructor
    · rintro ⟨c, hc, py, hpy, px, hpx, rfl⟩
      have key : ∀ c, |normed c (P b.val c) (14 * (r.val / 28) + py) (14 * (r.val % 28) + px)| = |cell (P b.val) r.val c (14 * py + px)| := by
        intro c
        unfold cell
        rw [show (14 * py + px) / 14 = py by omega, show (14 * py + px) % 14 = px by omega]
      rw [key]
      have : c = 0 ∨ c = 1 ∨ c = 2 := by omega
      rcases this with rfl | rfl | rfl
      · exact .inl (.inl ⟨⟨14 * py + px, by omega⟩, rfl⟩)
      · exact .inl (.inr ⟨⟨14 * py + px, by omega⟩, rfl⟩)
      · exact .inr ⟨⟨14 * py + px, by omega⟩, rfl⟩
    · have key : ∀ c, c < 3 → ∀ j : Fin 196, |cell (P b.val) r.val c j.val| ∈ patch (P b.val) (r.val / 28) (r.val % 28) := by
        intro c hc j
        exact ⟨c, hc, j.val / 14, by omega, j.val % 14, by omega, rfl⟩
      rintro ((⟨j, rfl⟩ | ⟨j, rfl⟩) | ⟨j, rfl⟩)
      · exact key 0 (by decide) j
      · exact key 1 (by decide) j
      · exact key 2 (by decide) j

theorem pay14_apply (b : Fin 2) (r : Fin 784) : k0_pay14 Y (ix2 b r) = ((top (P b.val) (r.val / 28) (r.val % 28) : ℝ) : EReal)
    ∧ 0 ≤ top (P b.val) (r.val / 28) (r.val % 28) := by
  obtain ⟨A, e, g⟩ := pay14_greatest P Y hY b r
  have : top (P b.val) (r.val / 28) (r.val % 28) = A := g.csSup_eq
  rw [this]
  refine ⟨e, ?_⟩
  obtain ⟨c, hc, py, hpy, px, hpx, h⟩ := g.1
  rw [h]
  exact abs_nonneg _

theorem pay7_apply (b : Fin 2) (r : Fin 784) :
    k0_pay7 (k0_pay14 Y) (k0_pay15 Y) (ix2 b r) = (((ex (top (P b.val) (r.val / 28) (r.val % 28)) : ℤ) : ℝ) : EReal) := by
  obtain ⟨e, h0⟩ := pay14_apply P Y hY b r
  have e15 : k0_pay15 Y (ix2 b r) = Ideal.log (k0_pay14 Y (ix2 b r) * Ideal.ofBits .f32 0x3B124925#32) := by
    unfold k0_pay15 k0_pay6 k0_pay14
    pointwise
  unfold k0_pay7
  pointwise
  rw [e15, e]
  unfold ex
  by_cases h : top (P b.val) (r.val / 28) (r.val % 28) = 0
  · rw [if_pos h, if_pos (by rw [h]; rfl)]
    simp
  · have hp : 0 < top (P b.val) (r.val / 28) (r.val % 28) := lt_of_le_of_ne h0 (Ne.symm h)
    have h2 : Real.log 2 ≠ 0 := (Real.log_pos (by norm_num)).ne'
    rw [if_neg h, if_neg (by rw [show (0 : EReal) = ((0 : ℝ) : EReal) by rfl]; exact fun hh => h (EReal.coe_eq_coe_iff.1 hh))]
    rw [ofBits_rho, ← EReal.coe_mul, log_coe _ (mul_pos hp rho_pos)]
    rw [show (Scalar.log (Ideal.ofBits .f32 1073741824#32 : Ideal .f32) : Ideal .f32) = ((Real.log 2 : ℝ) : EReal) by
      show Ideal.log (Ideal.ofBits .f32 1073741824#32) = _
      rw [ofBits_two, log_coe _ (by norm_num)]]
    rw [Ideal.div_coe h2, ← EReal.coe_mul, mul_one_div]
    show (((⌊_⌋ : ℤ) : ℝ) : EReal) + 1 = _
    rw [show (1 : EReal) = ((1 : ℝ) : EReal) by rfl, ← EReal.coe_add]
    push_cast
    rfl

/-! ## The results -/

theorem pay8_apply (b : Fin 2) (r : Fin 784) :
    k0_pay8 (k0_pay14 Y) (k0_pay15 Y) (ix3 b 0 r) = ((scaleOf (P b.val) (r.val / 28) (r.val % 28) : ℝ) : EReal) := by
  unfold k0_pay8
  pointwise
  rw [pay7_apply P Y hY, exp2_int]
  rfl

theorem scales_apply (b : Fin 2) (r : Fin 784) : out0_2 Y (ix3 b 0 r) = ((scaleOf (P b.val) (r.val / 28) (r.val % 28) : ℝ) : EReal) := by
  unfold out0_2
  rw [View.canon_apply_of_pieces (fun y : S2x1x784.Idx => ((scaleOf (P (y 0).val) ((y 2).val / 28) ((y 2).val % 28) : ℝ) : EReal)) _ _ _ (cover0_2 _ _)]
  · rfl
  · intro p hp x
    rw [List.mem_singleton] at hp
    subst hp
    have h0 : (x 0).val < 2 := (x 0).isLt
    have h1 : (x 1).val < 1 := (x 1).isLt
    have h2 : (x 2).val < 784 := (x 2).isLt
    have hx : x = (ix3 ⟨(x 0).val, h0⟩ 0 ⟨(x 2).val, h2⟩ : S2x1x784.Idx) := by
      funext a
      apply Fin.ext
      match a with
      | 0 => rfl
      | 1 => show (x 1).val = 0; omega
      | 2 => rfl
    have e0 : ((Rect.emb r0_3 x) 0).val = (x 0).val := by
      show 0 + 1 * (x 0).val = _; omega
    have e2 : ((Rect.emb r0_3 x) 2).val = (x 2).val := by
      show 0 + 1 * (x 2).val = _; omega
    show k0_pay8 (k0_pay14 Y) (k0_pay15 Y) x = ((scaleOf (P ((Rect.emb r0_3 x) 0).val) (((Rect.emb r0_3 x) 2).val / 28) (((Rect.emb r0_3 x) 2).val % 28) : ℝ) : EReal)
    rw [e0, e2]
    exact (congrArg (k0_pay8 (k0_pay14 Y) (k0_pay15 Y)) hx).trans (pay8_apply P Y hY _ _)

omit hY in
/-- One clipped product. -/
theorem clip_scalar (v : ℝ) (n : ℤ) (X E : Ideal .f32) (hX : X = (v : EReal)) (hE : E = ((n : ℝ) : EReal)) :
    min (Ideal.ofBits .f32 1138753536#32) (max (Ideal.ofBits .f32 3286237184#32) (X * FloatOps.exp2 (0 - E)))
      = ((min 448 (max (-448) (v * 2 ^ (-n))) : ℝ) : EReal) := by
  have e : ((0 : EReal) - ((n : ℝ) : EReal)) = (((-n : ℤ) : ℝ) : EReal) := by
    rw [show (0 : EReal) = ((0 : ℝ) : EReal) by rfl, ← EReal.coe_sub]
    push_cast
    rw [zero_sub]
  rw [hX, hE, ofBits_448, ofBits_n448]
  rw [show (FloatOps.exp2 ((0 : EReal) - ((n : ℝ) : EReal) : Ideal .f32) : Ideal .f32) = (((2 : ℝ) ^ (-n) : ℝ) : EReal) by rw [e]; exact exp2_int (-n)]
  rw [← EReal.coe_mul, coe_max, coe_min]

omit hY in
/-- The clipped cell of a patch is its code. -/
theorem code_cell (Q : ℕ → ℕ → ℕ → ℕ) (row c j col : ℕ) (hj : j < 196) (h : col = 196 * c + j) :
    min 448 (max (-448) (cell Q row c j * 2 ^ (-ex (top Q (row / 28) (row % 28))))) = KernelIdeal.Val.codeAt Q row col := by
  unfold KernelIdeal.Val.codeAt code cell
  rw [show col / 196 = c by omega, show col % 196 / 14 = j / 14 by omega, show col % 14 = j % 14 by omega]

omit hY in
theorem piece_good (c lo : ℕ) (hlo : lo = 196 * c) (inb : ∀ a, (![0, 0, lo] : Fin 3 → ℕ) a + S2x784x196.size a ≤ S2x784x588.size a)
    (A : Vec Ideal S2x784x196 .fp8e4m3)
    (hA : ∀ (b : Fin 2) (r : Fin 784) (j : Fin 196), A (ix3 b r j)
      = ((min 448 (max (-448) (cell (P b.val) r.val c j.val * 2 ^ (-ex (top (P b.val) (r.val / 28) (r.val % 28))))) : ℝ) : EReal)) (x : S2x784x196.Idx) :
    A x = (fun y : S2x784x588.Idx => ((KernelIdeal.Val.codeAt (P (y 0).val) (y 1).val (y 2).val : ℝ) : EReal))
      (Rect.emb (Rect.unit (s := S2x784x588) ![0, 0, lo] S2x784x196.size inb) x) := by
  have h0 : (x 0).val < 2 := (x 0).isLt
  have h1 : (x 1).val < 784 := (x 1).isLt
  have h2 : (x 2).val < 196 := (x 2).isLt
  have hx : x = (ix3 ⟨(x 0).val, h0⟩ ⟨(x 1).val, h1⟩ ⟨(x 2).val, h2⟩ : S2x784x196.Idx) := eq_ix3 x
  have e0 : ((Rect.emb (Rect.unit (s := S2x784x588) ![0, 0, lo] S2x784x196.size inb) x) 0).val = (x 0).val := by
    show 0 + 1 * (x 0).val = _; omega
  have e1 : ((Rect.emb (Rect.unit (s := S2x784x588) ![0, 0, lo] S2x784x196.size inb) x) 1).val = (x 1).val := by
    show 0 + 1 * (x 1).val = _; omega
  have e2 : ((Rect.emb (Rect.unit (s := S2x784x588) ![0, 0, lo] S2x784x196.size inb) x) 2).val = lo + (x 2).val := by
    show lo + 1 * (x 2).val = _; omega
  beta_reduce
  rw [e0, e1, e2]
  refine (congrArg A hx).trans ((hA _ _ _).trans ?_)
  exact congrArg _ (code_cell _ _ c _ _ h2 (by rw [hlo]))

theorem codes_apply (b : Fin 2) (row : Fin 784) (col : Fin 588) :
    out0_1 Y (ix3 b row col) = ((KernelIdeal.Val.codeAt (P b.val) row.val col.val : ℝ) : EReal) := by
  unfold out0_1
  rw [View.canon_apply_of_pieces (fun y : S2x784x588.Idx => ((KernelIdeal.Val.codeAt (P (y 0).val) (y 1).val (y 2).val : ℝ) : EReal)) _ _ _ (cover0_1 _ _ _ _)]
  · rfl
  · intro p hp
    simp only [List.mem_cons, List.not_mem_nil, or_false] at hp
    rcases hp with rfl | rfl | rfl
    · refine piece_good P 2 392 rfl inb_S2x784x588_S2x784x196_0_0_392 _ (fun b r j => ?_)
      unfold k0_pay1 k0_pay12 k0_pay13 k0_pay9
      pointwise
      exact clip_scalar _ _ _ _ (pay4_apply P Y hY b r j) (pay7_apply P Y hY b r)
    · refine piece_good P 1 196 rfl inb_S2x784x588_S2x784x196_0_0_196 _ (fun b r j => ?_)
      unfold k0_pay11 k0_pay9
      pointwise
      exact clip_scalar _ _ _ _ (pay3_apply P Y hY b r j) (pay7_apply P Y hY b r)
    · refine piece_good P 0 0 rfl inb_S2x784x588_S2x784x196_0_0_0 _ (fun b r j => ?_)
      unfold k0_pay10 k0_pay9
      pointwise
      exact clip_scalar _ _ _ _ (pay2_apply P Y hY b r j) (pay7_apply P Y hY b r)

end

end Cert.ReferenceIdeal.Val

end
-- ==== Proof.Value.RefRun.lean ====
/-
  The reference's two result arrays after its run, in closed form.
-/
module

public import proofs.«01_k».proof.Proof.Value.RefQuant
public import Idealize.ShloMosaic.Lib.Pipeline.ValueKit

@[expose] public section

noncomputable section

namespace Cert.Val

open Idealize.ShloMosaic

/-- The codes of the two images. -/
def codesOut (P : ℕ → ℕ → ℕ → ℕ → ℕ) : Vec Ideal ⟨3, ![2, 784, 588]⟩ .fp8e4m3 :=
  fun y => ((KernelIdeal.Val.codeAt (P (y 0).val) (y 1).val (y 2).val : ℝ) : EReal)

/-- The scales of the two images. -/
def scalesOut (P : ℕ → ℕ → ℕ → ℕ → ℕ) : Vec Ideal ⟨3, ![2, 1, 784]⟩ .f32 :=
  fun y => ((scaleOf (P (y 0).val) ((y 2).val / 28) ((y 2).val % 28) : ℝ) : EReal)

end Cert.Val

namespace Cert.ReferenceIdeal.Val

open Idealize.ShloMosaic Idealize.ShloMosaic.TcCoe Idealize.SL.Sem Cert.ReferenceIdeal.Gen Cert.ReferenceIdeal Cert.Val
open Idealize.ShloMosaic.Pipeline (Dat)

theorem resized_patches (x : IVec S2x3x2048x1536 8) : Resized (pixels x) (patches (image x) : FVec Ideal S2x784x588 .f32) := by
  intro b row c j hc hj h
  have hr := row.isLt
  rw [patches_apply, image_apply]
  dsimp only
  rw [show (196 * c + j) / 196 = c by omega, show (196 * c + j) % 14 = j % 14 by omega, show (196 * c + j) % 196 / 14 = j / 14 by omega]

variable (m : (ℓ : Loc nD τ sig) → Buf (Elt Ideal) ℓ) (ρ : Dev nD → PrngReg)

theorem idx0 : ∀ t : Fin cfg0.N, win0_0.index t = ![0, 0, 0] := (by decide +kernel : ∀ t : Fin grid0.N, win0_0.index t = ![0, 0, 0])

theorem iblk_patches (c : Dev nD) (t : Fin cfg0.N) :
    iblk m c 0 t = (patches (image (m ((c : Thread nD τ).loc main_arg0))) : FVec Ideal S2x784x588 .f32) := by
  refine Eq.trans ?_ (V_patches m c)
  funext y
  show V m c main_v62 (((cfg0.win 0).blk t).view.emb y) = V m c main_v62 y
  refine congrArg _ ?_
  funext a
  apply Fin.ext
  blk_simp [idx0]
  fin_cases a <;> simp

theorem final_codes (c : Dev nD) :
    (dats m 0 c).arrAt 1 cfg0.N = codesOut (pixels (m ((c : Thread nD τ).loc main_arg0))) := by
  refine (dats m 0 c).arrAt_eq_of_after_last 1 t0_0 (by decide +kernel) _ fun j => ?_
  blk_simp
  rw [after0_1, iblk_patches, eq_ix3 j]
  exact codes_apply _ _ (resized_patches _) (j 0) (j 1) (j 2)

theorem final_scales (c : Dev nD) :
    (dats m 0 c).arrAt 2 cfg0.N = scalesOut (pixels (m ((c : Thread nD τ).loc main_arg0))) := by
  refine (dats m 0 c).arrAt_eq_of_after_last 2 t0_0 (by decide +kernel) _ fun j => ?_
  blk_simp
  rw [after0_2, iblk_patches]
  have h1 : (j 1).val < 1 := (j 1).isLt
  have hj : j = (ix3 (j 0) 0 (j 2) : S2x1x784.Idx) := by
    funext a
    apply Fin.ext
    match a with
    | 0 => rfl
    | 1 => show (j 1).val = 0; omega
    | 2 => rfl
  rw [hj]
  exact scales_apply _ _ (resized_patches _) (j 0) (j 2)

theorem run : θ_run defs (onTc (τ := τ) (main (F := Ideal))) ⟨m, fun _ => 0, ρ⟩ (fun r => ∀ c : Dev nD,
    r.2.mem ((c : Thread nD τ).loc main_v63_0) = codesOut (pixels (m ((c : Thread nD τ).loc main_arg0)))
    ∧ r.2.mem ((c : Thread nD τ).loc main_v63_1) = scalesOut (pixels (m ((c : Thread nD τ).loc main_arg0)))
    ∧ r.2.mem ((c : Thread nD τ).loc main_arg0) = m ((c : Thread nD τ).loc main_arg0)) := by
  refine θ_run_mono (Value.run_blocks m ρ) fun r h c => ?_
  obtain ⟨h0, h1, h2⟩ := h c
  exact ⟨h0.trans (final_codes m c), h1.trans (final_scales m c), h2⟩

end Cert.ReferenceIdeal.Val

end
-- ==== Proof.Value.Witness.lean ====
/-
  What the run of the second half leaves in the two results' buffers, as the stores that reach them.
-/
module

public import proofs.«01_k».proof.Proof.Value.EpilogueRun

@[expose] public section

noncomputable section

namespace Cert.KernelIdeal.Val

open Idealize.ShloMosaic Idealize.ShloMosaic.TcCoe Cert.KernelIdeal.Gen Cert.KernelIdeal

variable {F : FTy → Type} [FloatOps F] [Named F] [∀ e, Nonempty (Elt F e)]

variable (c : Dev nD) (i : grid0.Coords) (hi : k0_cond1 i = 1#1)
  (M2 : Memref sig .tc .vmem S1x1x2048x1536 .i8) (h2 : M2.IsWhole) (M3 : Memref sig .tc .vmem S24x80x256 .bf16) (h3 : M3.IsWhole)
  (M4 : Memref sig .tc .vmem S2x1024x256 .bf16) (h4 : M4.IsWhole) (M5 : Memref sig .tc .vmem S1x784x588 .fp8e4m3) (h5 : M5.IsWhole)
  (M6 : Memref sig .tc .vmem S1x1x784 .f32) (h6 : M6.IsWhole) (M7 : Memref sig .tc .vmem S4x1600x128 .f32) (h7 : M7.IsWhole)
  (M8 : Memref sig .tc .vmem S3x4x448x128 .f32) (h8 : M8.IsWhole) (M9 : Memref sig .tc .vmem S5x800x128 .f32) (h9 : M9.IsWhole)
  (f2 : Bf (F := F) c M2) (f3 : Bf (F := F) c M3) (f4 : Bf (F := F) c M4) (f7 : Bf (F := F) c M7) (f8 g8 : Bf (F := F) c M8)
  (f5 : Bf (F := F) c M5) (f6 : Bf (F := F) c M6) (f9 : Bf (F := F) c M9)

theorem codes_left : (epilogueRun c i hi M2 h2 M3 h3 M4 h4 M5 h5 M6 h6 M7 h7 M8 h8 M9 h9 f2 f3 f4 f7 f8 g8 f5 f6 f9).1.1
    = M5.view.writes (Elt F) M5.view.junk (epilogueRun.sl.H5_5 c M8 M9 g8 f9) := by
  dsimp only [epilogueRun]

theorem scales_left : (epilogueRun c i hi M2 h2 M3 h3 M4 h4 M5 h5 M6 h6 M7 h7 M8 h8 M9 h9 f2 f3 f4 f7 f8 g8 f5 f6 f9).1.2.1
    = M6.view.writes (Elt F) M6.view.junk (epilogueRun.sl.H6_1 c M8 g8) := by
  dsimp only [epilogueRun]

end Cert.KernelIdeal.Val

end
-- ==== Proof.Value.Channels.lean ====
/-
  The scratch `v` as the channels fill it: what a channel's stores leave, and what the second half finds in its slabs.
-/
module

public import proofs.«01_k».proof.Proof.Value.Words

@[expose] public section

noncomputable section

namespace Cert.KernelIdeal.Val

open Idealize.ShloMosaic Idealize.ShloMosaic.TcCoe Cert.KernelIdeal.Gen Cert.KernelIdeal Cert.Val

set_option maxRecDepth 16384

/-- The first `n` channels are stored, normalised. -/
def Holds (P : ℕ → ℕ → ℕ → ℕ) (n : ℕ) (X : S3x4x448x128.Idx → EReal) : Prop :=
  ∀ (cc : Fin 3) (q : Fin 4) (o : Fin 448) (l : Fin 128), cc.val < n → o.val < 392 → kept q.val l.val = true →
    X (ix4 cc q o l) = ((normed cc.val (P cc.val) (rowAt q.val l.val) o.val : ℝ) : EReal)

theorem off1_eq : ∀ (i : grid0.Coords) (a : Fin 4), k0_off1 i a = (![(i 1).val, 0, 0, 0] : Fin 4 → ℕ) a := by decide +kernel
theorem off2_eq : ∀ (i : grid0.Coords) (a : Fin 4), k0_off2 i a = (![(i 1).val, 1, 0, 0] : Fin 4 → ℕ) a := by decide +kernel
theorem off3_eq : ∀ (i : grid0.Coords) (a : Fin 4), k0_off3 i a = (![(i 1).val, 2, 0, 0] : Fin 4 → ℕ) a := by decide +kernel
theorem off4_eq : ∀ (i : grid0.Coords) (a : Fin 4), k0_off4 i a = (![(i 1).val, 3, 0, 0] : Fin 4 → ℕ) a := by decide +kernel

section
variable (c : Dev nD) (i : grid0.Coords) (M8 : Memref sig .tc .vmem S3x4x448x128 .f32) (f8 : Bf (F := Ideal) c M8)
  (A₀ A₁ : FVec Ideal S400x256 .f32)

/-- What the channel's stores leave at a place. -/
def after (y : S3x4x448x128.Idx) : EReal :=
  normalised i (quarter A₀ A₁ (y 1).val) (ix4 0 0 ⟨(y 2).val % 400, Nat.mod_lt _ (by decide)⟩ ⟨(y 3).val, (y 3).isLt⟩)

/-- One store of quarter `q`. -/
def vPiece (q : ℕ) (off : Fin 4 → ℕ) (inb : ∀ a, off a + S1x1x400x128.size a ≤ S3x4x448x128.size a) : View.Piece (Elt Ideal) S3x4x448x128 .f32 :=
  ⟨Rect.unit (s := S3x4x448x128) off S1x1x400x128.size inb, normalised i (quarter A₀ A₁ q)⟩

theorem vPiece_good (q : ℕ) (off : Fin 4 → ℕ) (inb) (ho : ∀ a, off a = (![(i 1).val, q, 0, 0] : Fin 4 → ℕ) a) (x) :
    (vPiece i A₀ A₁ q off inb).2 x = after i A₀ A₁ ((vPiece i A₀ A₁ q off inb).1.emb x) := by
  have h0 : (x 0).val < 1 := (x 0).isLt
  have h1 : (x 1).val < 1 := (x 1).isLt
  have h2 : (x 2).val < 400 := (x 2).isLt
  have e : ∀ a, ((vPiece i A₀ A₁ q off inb).1.emb x a).val = off a + 1 * (x a).val := fun a => rfl
  unfold after
  rw [show ((vPiece i A₀ A₁ q off inb).1.emb x 1).val = q by rw [e, ho]; show q + 1 * (x 1).val = q; omega]
  show normalised i (quarter A₀ A₁ q) x = _
  congr 1
  funext b
  apply Fin.ext
  match b with
  | 0 => show (x 0).val = 0; omega
  | 1 => show (x 1).val = 0; omega
  | 2 =>
    show (x 2).val = ((vPiece i A₀ A₁ q off inb).1.emb x 2).val % 400
    rw [e, ho]
    show (x 2).val = (0 + 1 * (x 2).val) % 400
    omega
  | 3 =>
    show (x 3).val = ((vPiece i A₀ A₁ q off inb).1.emb x 3).val
    rw [e, ho]
    show (x 3).val = 0 + 1 * (x 3).val
    omega

theorem vPiece_mem (q : ℕ) (off : Fin 4 → ℕ) (inb) (ho : ∀ a, off a = (![(i 1).val, q, 0, 0] : Fin 4 → ℕ) a) (cc : Fin 3) (q' : Fin 4) (o : Fin 448) (l : Fin 128) :
    ix4 cc q' o l ∈ (vPiece i A₀ A₁ q off inb).1.set ↔ cc.val = (i 1).val ∧ q'.val = q ∧ o.val < 400 := by
  refine (Rect.mem_set_unit (inb := inb)).trans ⟨fun h => ?_, fun h a => ?_⟩
  · have a0 := h 0
    have a1 := h 1
    have a2 := h 2
    rw [ho] at a0 a1 a2
    have b0 : (i 1).val ≤ cc.val ∧ cc.val < (i 1).val + 1 := a0
    have b1 : q ≤ q'.val ∧ q'.val < q + 1 := a1
    have b2 : 0 ≤ o.val ∧ o.val < 0 + 400 := a2
    omega
  · obtain ⟨b0, b1, b2⟩ := h
    rw [ho]
    match a with
    | 0 => show (i 1).val ≤ cc.val ∧ cc.val < (i 1).val + 1; omega
    | 1 => show q ≤ q'.val ∧ q'.val < q + 1; omega
    | 2 => show 0 ≤ o.val ∧ o.val < 0 + 400; omega
    | 3 => show 0 ≤ l.val ∧ l.val < 0 + 128; omega

/-- The stores of a channel. -/
theorem holds_step (P : ℕ → ℕ → ℕ → ℕ)
    (h₀ : ∀ (o : Fin 400), o.val < 394 → ∀ l : Fin 256, A₀ (ix2 o l) = ((halfSum (P (i 1).val) 0 (rowOf 0 l) o.val : ℝ) : EReal))
    (h₁ : ∀ (o : Fin 400), o.val < 394 → ∀ l : Fin 256, A₁ (ix2 o l) = ((halfSum (P (i 1).val) 1 (rowOf 1 l) o.val : ℝ) : EReal))
    (h : Holds P (i 1).val (M8.view.read (Elt Ideal) f8)) :
    Holds P ((i 1).val + 1) (M8.view.read (Elt Ideal) (M8.view.writes (Elt Ideal) f8 (vPieces i A₀ A₁))) := by
  intro cc q o l hcc ho hk
  have hL : vPieces i A₀ A₁ = [vPiece i A₀ A₁ 3 (k0_off4 i) (k0_off4_inb i), vPiece i A₀ A₁ 2 (k0_off3 i) (k0_off3_inb i),
    vPiece i A₀ A₁ 1 (k0_off2 i) (k0_off2_inb i), vPiece i A₀ A₁ 0 (k0_off1 i) (k0_off1_inb i)] := rfl
  rw [hL]
  by_cases e : cc.val = (i 1).val
  · rw [View.read_writes_apply_of_pieces M8.view f8 (after i A₀ A₁)]
    · have v := normalised_apply (P (i 1).val) A₀ A₁ h₀ h₁ i q.val q.isLt ⟨o.val, by omega⟩ (by dsimp only; omega) l hk
      rw [e]
      refine Eq.trans ?_ v
      unfold after
      show normalised i (quarter A₀ A₁ q.val) (ix4 0 0 ⟨o.val % 400, _⟩ l) = _
      congr 2
      exact Fin.ext (by show o.val % 400 = o.val; omega)
    · intro p hp
      simp only [List.mem_cons, List.not_mem_nil, or_false] at hp
      rcases hp with rfl | rfl | rfl | rfl
      · exact vPiece_good i A₀ A₁ _ _ _ (off4_eq i)
      · exact vPiece_good i A₀ A₁ _ _ _ (off3_eq i)
      · exact vPiece_good i A₀ A₁ _ _ _ (off2_eq i)
      · exact vPiece_good i A₀ A₁ _ _ _ (off1_eq i)
    · simp only [List.mem_cons, List.not_mem_nil, or_false, exists_eq_or_imp, exists_eq_left]
      rw [vPiece_mem i A₀ A₁ _ _ _ (off4_eq i), vPiece_mem i A₀ A₁ _ _ _ (off3_eq i), vPiece_mem i A₀ A₁ _ _ _ (off2_eq i),
        vPiece_mem i A₀ A₁ _ _ _ (off1_eq i)]
      omega
  · rw [View.read_writes_apply_of_forall_not_mem]
    · exact h cc q o l (by omega) ho hk
    · intro p hp hm
      simp only [List.mem_cons, List.not_mem_nil, or_false] at hp
      rcases hp with rfl | rfl | rfl | rfl
      · exact e ((vPiece_mem i A₀ A₁ _ _ _ (off4_eq i) _ _ _ _).1 hm).1
      · exact e ((vPiece_mem i A₀ A₁ _ _ _ (off3_eq i) _ _ _ _).1 hm).1
      · exact e ((vPiece_mem i A₀ A₁ _ _ _ (off2_eq i) _ _ _ _).1 hm).1
      · exact e ((vPiece_mem i A₀ A₁ _ _ _ (off1_eq i) _ _ _ _).1 hm).1

end

/-! ## The slabs -/

variable (c : Dev nD) (M8 : Memref sig .tc .vmem S3x4x448x128 .f32) (g8 : Bf (F := Ideal) c M8) (P : ℕ → ℕ → ℕ → ℕ)

theorem fill_inb (k : ℕ) : ∀ a, (![k / 4 % 3, k % 4, 400, 0] : Fin 4 → ℕ) a + S1x1x48x128.size a ≤ S3x4x448x128.size a := by
  intro a
  match a with
  | 0 => show k / 4 % 3 + 1 ≤ 3; omega
  | 1 => show k % 4 + 1 ≤ 4; omega
  | 2 => exact Nat.le_refl 448
  | 3 => exact Nat.le_refl 128

/-- The store of zeros past the last output of quarter `k % 4` of channel `k / 4`. -/
def fill (k : ℕ) : View.Piece (Elt Ideal) S3x4x448x128 .f32 :=
  ⟨Rect.unit (s := S3x4x448x128) ![k / 4 % 3, k % 4, 400, 0] S1x1x48x128.size (fill_inb k), (epilogueRun.sl.v793 : FVec Ideal S1x1x48x128 .f32)⟩

def fills : ℕ → List (View.Piece (Elt Ideal) S3x4x448x128 .f32)
  | 0 => []
  | k + 1 => fill k :: fills k

theorem fills_eq : epilogueRun.sl.H8_12 (F := Ideal) = fills 12 := rfl

theorem fills_low (y : S3x4x448x128.Idx) (hy : (y 2).val < 400) : ∀ k, ∀ p ∈ fills k, y ∉ p.1.set
  | 0, p, hp => absurd hp (by simp [fills])
  | k + 1, p, hp => by
    simp only [fills, List.mem_cons] at hp
    rcases hp with rfl | hp
    · intro hm
      have h : 400 ≤ (y 2).val ∧ (y 2).val < 400 + 48 := (Rect.mem_set_unit (inb := fill_inb k)).1 hm 2
      omega
    · exact fills_low y hy k p hp

theorem slabs_of_holds (h : Holds P 3 (M8.view.read (Elt Ideal) g8)) : Slabs (slab c M8 (padded c M8 g8)) P := by
  intro cc q px r l hc hq hp hr hk
  have hi : slab c M8 (padded c M8 g8) cc q px (ix4 0 0 r l)
      = M8.view.read (Elt Ideal) (padded c M8 g8) (ix4 ⟨cc, hc⟩ ⟨q, hq⟩ ⟨14 * r.val + px, by omega⟩ l) := by
    unfold slab
    show M8.view.read (Elt Ideal) _ _ = _
    congr 1
    funext b
    apply Fin.ext
    match b with
    | 0 => show cc % 3 + 1 * 0 = cc; omega
    | 1 => show q % 4 + 1 * 0 = q; omega
    | 2 => show px % 14 + 14 * r.val = 14 * r.val + px; omega
    | 3 => show 0 + 1 * l.val = l.val; omega
  rw [hi]
  unfold padded
  rw [fills_eq, View.read_writes_apply_of_forall_not_mem _ _ _ _ (fills_low _ (by show 14 * r.val + px < 400; omega) 12)]
  exact h ⟨cc, hc⟩ ⟨q, hq⟩ ⟨14 * r.val + px, by omega⟩ l hc (by dsimp only; omega) hk

end Cert.KernelIdeal.Val

end
-- ==== Proof.Value.Tracked.lean ====
/-
  What the kernel's pipeline keeps: after each channel the scratch holds that channel normalised, and a batch's last point
  leaves its codes and its scales.
-/
module

public import proofs.«01_k».proof.Proof.KernelIdeal.Track
public import proofs.«01_k».proof.Proof.Value.Witness
public import proofs.«01_k».proof.Proof.Value.Channels
public import proofs.«01_k».proof.Proof.Value.RefRun

@[expose] public section

noncomputable section

namespace Cert.KernelIdeal.Val

open Idealize.ShloMosaic Idealize.ShloMosaic.TcCoe Idealize.SL.Sem Cert.KernelIdeal.Gen Cert.KernelIdeal Cert.Val
open Idealize.ShloMosaic.Pipeline (Dat RDat)
open Cert.ReferenceIdeal.Val (pixels)

variable (m : (ℓ : Loc nD τ sig) → Buf (Elt Ideal) ℓ)

/-- The image argument. -/
def arg (c : Dev nD) : IVec S2x3x2048x1536 8 := m ((c : Thread nD τ).loc main_arg0)

/-! ## The blocks of the inputs -/

theorem idx0 : ∀ t : Fin cfg0.N, win0_0.index t = ![t.val / 3, t.val % 3, 0, 0] :=
  (by decide +kernel : ∀ t : Fin grid0.N, win0_0.index t = ![t.val / 3, t.val % 3, 0, 0])
theorem idx1 : ∀ t : Fin cfg0.N, win0_1.index t = ![0, 0, 0] := (by decide +kernel : ∀ t : Fin grid0.N, win0_1.index t = ![0, 0, 0])
theorem idx2 : ∀ t : Fin cfg0.N, win0_2.index t = ![0, 0, 0] := (by decide +kernel : ∀ t : Fin grid0.N, win0_2.index t = ![0, 0, 0])
theorem coord1 : ∀ t : Fin cfg0.N, ((grid0.coords t) 1).val = t.val % 3 :=
  (by decide +kernel : ∀ t : Fin grid0.N, ((grid0.coords t) 1).val = t.val % 3)
theorem cond_last : ∀ t : Fin cfg0.N, k0_cond1 (grid0.coords t) = 1#1 ↔ t.val % 3 = 2 :=
  (by decide +kernel : ∀ t : Fin grid0.N, k0_cond1 (grid0.coords t) = 1#1 ↔ t.val % 3 = 2)
theorem lt_six (t : Fin cfg0.N) : t.val < 6 := t.isLt

theorem pixel_block (c : Dev nD) (t : Fin cfg0.N) (h w : ℕ) :
    pixel (iblk m c 0 t) h w = pixels (arg m c) (t.val / 3) (t.val % 3) h w := by
  have ht := lt_six t
  unfold pixel pixels
  refine congrArg BitVec.toNat ?_
  refine Eq.trans (b := V m c main_arg0 (ix4 ⟨t.val / 3 % 2, Nat.mod_lt _ (by decide)⟩ ⟨t.val % 3 % 3, Nat.mod_lt _ (by decide)⟩
    ⟨h % 2048, Nat.mod_lt _ (by decide)⟩ ⟨w % 1536, Nat.mod_lt _ (by decide)⟩)) ?_ (congrFun (V_main_arg0 m c) _)
  show V m c main_arg0 (((cfg0.win 0).blk t).view.emb _) = _
  refine congrArg _ ?_
  funext a
  apply Fin.ext
  blk_simp [idx0]
  fin_cases a
  · show t.val / 3 * 1 + 0 = t.val / 3 % 2; omega
  · show t.val % 3 * 1 + 0 = t.val % 3 % 3; omega
  · show 0 * 2048 + h % 2048 = h % 2048; omega
  · show 0 * 1536 + w % 1536 = w % 1536; omega

theorem iblk_tilesW (c : Dev nD) (t : Fin cfg0.N) : iblk m c 1 t = (tilesW : FVec Ideal S24x80x256 .bf16) := by
  refine Eq.trans ?_ (V_tilesW m c)
  funext y
  show V m c main_v87 (((cfg0.win 1).blk t).view.emb y) = V m c main_v87 y
  refine congrArg _ ?_
  funext a
  apply Fin.ext
  blk_simp [idx1]
  fin_cases a <;> simp

theorem iblk_tilesH (c : Dev nD) (t : Fin cfg0.N) : iblk m c 2 t = (tilesH : FVec Ideal S2x1024x256 .bf16) := by
  refine Eq.trans ?_ (V_tilesH m c)
  funext y
  show V m c main_v127 (((cfg0.win 2).blk t).view.emb y) = V m c main_v127 y
  refine congrArg _ ?_
  funext a
  apply Fin.ext
  blk_simp [idx2]
  fin_cases a <;> simp

theorem pixels_le (x : IVec S2x3x2048x1536 8) (b ch h w : ℕ) : pixels x b ch h w ≤ 255 := by
  unfold pixels
  have := (x (ix4 ⟨b % 2, Nat.mod_lt _ (by decide)⟩ ⟨ch % 3, Nat.mod_lt _ (by decide)⟩ ⟨h % 2048, Nat.mod_lt _ (by decide)⟩ ⟨w % 1536, Nat.mod_lt _ (by decide)⟩)).isLt
  omega

/-! ## What is tracked -/

/-- The channels before the point are normalised in the scratch; a batch's last point leaves its results. -/
def track : Track (F := Ideal) where
  v c n g := Holds (pixels (arg m c) (n / 3)) (n % 3) (sc1.view.read (Elt Ideal) g)
  codes c t X := t.val % 3 = 2 → ∀ (row : Fin 784) (col : Fin 588),
    X (ix3 0 row col) = ((codeAt (pixels (arg m c) (t.val / 3)) row.val col.val : ℝ) : EReal)
  scales c t X := t.val % 3 = 2 → ∀ k : Fin 784,
    X (ix3 0 0 k) = ((scaleOf (pixels (arg m c) (t.val / 3)) (k.val / 28) (k.val % 28) : ℝ) : EReal)

theorem holds_zero (P : ℕ → ℕ → ℕ → ℕ) (X) : Holds P 0 X := fun cc _ _ _ h => absurd h (Nat.not_lt_zero _)

/-- One point's channel joins the channels before it. -/
theorem holds_point (c : Dev nD) (t : Fin cfg0.N) (f2 f3 f4 f7 f8)
    (h2 : (ms0 t).view.read (Elt Ideal) f2 = iblk m c 0 t) (h3 : (ms1 t).view.read (Elt Ideal) f3 = iblk m c 1 t)
    (h4 : (ms2 t).view.read (Elt Ideal) f4 = iblk m c 2 t) (hv : (track m).v c t.val f8) :
    Holds (pixels (arg m c) (t.val / 3)) (t.val % 3 + 1) (sc1.view.read (Elt Ideal) (resizeAt c t f2 f3 f4 f7 f8).1.2.1) := by
  have e3 := h3.trans (iblk_tilesW m c t)
  have e4 := h4.trans (iblk_tilesH m c t)
  have e1 := coord1 t
  have ep : pixel ((ms0 t).view.read (Elt Ideal) f2) = pixels (arg m c) (t.val / 3) (t.val % 3) := by
    rw [h2]
    funext h w
    exact pixel_block m c t h w
  rw [show (resizeAt c t f2 f3 f4 f7 f8).1.2.1 = _ from v_eq c (grid0.coords t) (ms0 t) (hs0 t) (ms1 t) (hs1 t) (ms2 t) (hs2 t) (ms3 t) (hs3 t) (ms4 t) (hs4 t)
    sc0 (Memref.isWhole_whole _) sc1 (Memref.isWhole_whole _) sc2 (Memref.isWhole_whole _) f2 f3 f4 f7 f8]
  rw [← e1]
  refine holds_step c (grid0.coords t) sc1 f8 _ _ _ (fun o ho l => ?_) (fun o ho l => ?_) ?_
  · rw [e1, ← ep]
    exact acc_apply c (ms0 t) (ms1 t) (ms2 t) sc0 f2 f3 f4 f7 e3 e4 0 (by decide) o ho l
  · rw [e1, ← ep]
    exact acc_apply c (ms0 t) (ms1 t) (ms2 t) sc0 f2 f3 f4 f7 e3 e4 1 (by decide) o ho l
  · rw [e1]
    exact hv

theorem track_step : (track m).Step m where
  start c f8 := holds_zero _ _
  mid c t hi f2 f3 f4 f7 f8 h2 h3 h4 hv := by
    have hn : ¬ t.val % 3 = 2 := fun h => hi ((cond_last t).2 h)
    have h := holds_point m c t f2 f3 f4 f7 f8 h2 h3 h4 hv
    refine ⟨?_, fun X hX => absurd hX hn, fun X hX => absurd hX hn⟩
    show Holds (pixels (arg m c) ((t.val + 1) / 3)) ((t.val + 1) % 3) _
    rw [show (t.val + 1) / 3 = t.val / 3 by omega, show (t.val + 1) % 3 = t.val % 3 + 1 by omega]
    exact h
  last c t hi f2 f3 f4 f7 f8 f5 f6 f9 h2 h3 h4 hv := by
    have ht : t.val % 3 = 2 := (cond_last t).1 hi
    have h := holds_point m c t f2 f3 f4 f7 f8 h2 h3 h4 hv
    rw [ht] at h
    refine ⟨?_, fun _ row col => ?_, fun _ k => ?_⟩
    · show Holds (pixels (arg m c) ((t.val + 1) / 3)) ((t.val + 1) % 3) _
      rw [show (t.val + 1) % 3 = 0 by omega]
      exact holds_zero _ _
    · have hS := slabs_of_holds c sc1 _ _ h
      refine Eq.trans ?_ (codes_read _ c (ms3 t) sc1 sc2 _ (ms3 t).view.junk f9 hS (fun _ _ _ => pixels_le _ _ _ _ _) row col)
      exact congrArg (fun g => (ms3 t).view.read (Elt Ideal) g (ix3 0 row col)) (codes_left c (grid0.coords t) hi (ms0 t) (hs0 t) (ms1 t) (hs1 t) (ms2 t) (hs2 t) (ms3 t) (hs3 t) (ms4 t) (hs4 t)
        sc0 (Memref.isWhole_whole _) sc1 (Memref.isWhole_whole _) sc2 (Memref.isWhole_whole _) f2 f3 f4 f7 f8 _ f5 f6 f9)
    · have hS := slabs_of_holds c sc1 _ _ h
      refine Eq.trans ?_ (scales_read _ c (ms4 t) sc1 _ (ms4 t).view.junk hS (fun _ _ _ => pixels_le _ _ _ _ _) k)
      exact congrArg (fun g => (ms4 t).view.read (Elt Ideal) g (ix3 0 0 k)) (scales_left c (grid0.coords t) hi (ms0 t) (hs0 t) (ms1 t) (hs1 t) (ms2 t) (hs2 t) (ms3 t) (hs3 t) (ms4 t) (hs4 t)
        sc0 (Memref.isWhole_whole _) sc1 (Memref.isWhole_whole _) sc2 (Memref.isWhole_whole _) f2 f3 f4 f7 f8 _ f5 f6 f9)

end Cert.KernelIdeal.Val

end
-- ==== Proof.Value.KernelRun.lean ====
/-
  The kernel's two result arrays after its run, in closed form.
-/
module

public import proofs.«01_k».proof.Proof.Value.Tracked
public import Idealize.ShloMosaic.Lib.Pipeline.ArrRel

@[expose] public section

noncomputable section

namespace Cert.KernelIdeal.Val

open Idealize.ShloMosaic Idealize.ShloMosaic.TcCoe Idealize.SL.Sem Cert.KernelIdeal.Gen Cert.KernelIdeal Cert.Val
open Idealize.ShloMosaic.Pipeline (Dat RDat)
open Cert.ReferenceIdeal.Val (pixels)

variable (m : (ℓ : Loc nD τ sig) → Buf (Elt Ideal) ℓ) (ρ : Dev nD → PrngReg)

theorem idx3 : ∀ t : Fin cfg0.N, win0_3.index t = ![t.val / 3, 0, 0] := (by decide +kernel : ∀ t : Fin grid0.N, win0_3.index t = ![t.val / 3, 0, 0])
theorem idx4 : ∀ t : Fin cfg0.N, win0_4.index t = ![t.val / 3, 0, 0] := (by decide +kernel : ∀ t : Fin grid0.N, win0_4.index t = ![t.val / 3, 0, 0])

variable (after : (w' : Fin cfg0.W) → Fin cfg0.N → (cfg0.win w').block.Idx → Elt Ideal (cfg0.win w').elt)

theorem final_codes (c : Dev nD)
    (h : ∀ u : Fin cfg0.N, (cfg0.win 3).flush u = true → (rdat m (track m) c).Leaves 3 u (after 3 u)) :
    ((rdat m (track m) c).withAfter after).arrAt 3 cfg0.N = codesOut (pixels (arg m c)) := by
  refine ((rdat m (track m) c).withAfter after).arrAt_eq_of_covers 3 _ (by decide +kernel) fun t hf y => ?_
  obtain ⟨Y, -, hX⟩ := h t hf
  have hc := (show (track m).codes c t (after 3 t) from hX) ((flush0_3 t).1 hf)
  have h0 : (y 0).val < 1 := (y 0).isLt
  have e0 : ((((cfg0.win 3).blk t).view.emb y) 0).val = t.val / 3 := by
    blk_simp [idx3]
  have e1 : ((((cfg0.win 3).blk t).view.emb y) 1).val = (y 1).val := by
    blk_simp [idx3]
  have e2 : ((((cfg0.win 3).blk t).view.emb y) 2).val = (y 2).val := by
    blk_simp [idx3]
  blk_simp
  show after 3 t y = ((codeAt (pixels (arg m c) ((((cfg0.win 3).blk t).view.emb y) 0).val) ((((cfg0.win 3).blk t).view.emb y) 1).val
    ((((cfg0.win 3).blk t).view.emb y) 2).val : ℝ) : EReal)
  rw [e0, e1, e2]
  refine (congrArg (after 3 t) ?_).trans (hc ⟨(y 1).val, (y 1).isLt⟩ ⟨(y 2).val, (y 2).isLt⟩)
  funext a
  apply Fin.ext
  match a with
  | 0 => show (y 0).val = 0; omega
  | 1 => rfl
  | 2 => rfl

theorem final_scales (c : Dev nD)
    (h : ∀ u : Fin cfg0.N, (cfg0.win 4).flush u = true → (rdat m (track m) c).Leaves 4 u (after 4 u)) :
    ((rdat m (track m) c).withAfter after).arrAt 4 cfg0.N = scalesOut (pixels (arg m c)) := by
  refine ((rdat m (track m) c).withAfter after).arrAt_eq_of_covers 4 _ (by decide +kernel) fun t hf y => ?_
  obtain ⟨Y, -, hX⟩ := h t hf
  have hc := (show (track m).scales c t (after 4 t) from hX) ((flush0_4 t).1 hf)
  have h0 : (y 0).val < 1 := (y 0).isLt
  have h1 : (y 1).val < 1 := (y 1).isLt
  have e0 : ((((cfg0.win 4).blk t).view.emb y) 0).val = t.val / 3 := by
    blk_simp [idx4]
  have e2 : ((((cfg0.win 4).blk t).view.emb y) 2).val = (y 2).val := by
    blk_simp [idx4]
  blk_simp
  show after 4 t y = ((scaleOf (pixels (arg m c) ((((cfg0.win 4).blk t).view.emb y) 0).val) (((((cfg0.win 4).blk t).view.emb y) 2).val / 28)
    (((((cfg0.win 4).blk t).view.emb y) 2).val % 28) : ℝ) : EReal)
  rw [e0, e2]
  refine (congrArg (after 4 t) ?_).trans (hc ⟨(y 2).val, (y 2).isLt⟩)
  funext a
  apply Fin.ext
  match a with
  | 0 => show (y 0).val = 0; omega
  | 1 => show (y 1).val = 0; omega
  | 2 => rfl

theorem run : θ_run defs (onTc (τ := τ) (main (F := Ideal))) ⟨m, fun _ => 0, ρ⟩ (fun r => ∀ c : Dev nD,
    r.2.mem ((c : Thread nD τ).loc main_v128_0) = codesOut (pixels (arg m c))
    ∧ r.2.mem ((c : Thread nD τ).loc main_v128_1) = scalesOut (pixels (arg m c))
    ∧ r.2.mem ((c : Thread nD τ).loc main_arg0) = m ((c : Thread nD τ).loc main_arg0)) := by
  refine θ_run_mono (run_main m ρ (track m) (track_step m)) fun r h c => ?_
  obtain ⟨after, hL, hA⟩ := h.1.exists_exact c
  exact ⟨(hA 3).trans (final_codes m after c (hL 3)), (hA 4).trans (final_scales m after c (hL 4)), arg0_kept m (track m) h.1 c⟩

end Cert.KernelIdeal.Val

end
-- ==== Proof.lean ====
module

public import proofs.«01_k».proof.Defs
public import proofs.«01_k».proof.Proof.Kernel.Track
public import proofs.«01_k».proof.Proof.KernelIdeal.Track
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Value.RefRun
public import proofs.«01_k».proof.Proof.Value.KernelRun
public import Idealize.ShloMosaic.Adequacy
public import Idealize.ShloMosaic.Init

@[expose] public section

noncomputable section

namespace Cert.Proof

open Idealize.ShloMosaic Idealize.SL.Sem Cert.Kernel

theorem preserves : Cert.preserves_Kernel_KernelIdeal :=
  ⟨IdealRules.named_const.statement Cert.KernelIdeal.κ "inv_std0" .f32 0x3C6F2E3D#32 _ rfl,
    IdealRules.named_const.statement Cert.KernelIdeal.κ "mean_std0" .f32 0x3FE568DC#32 _ rfl,
    IdealRules.named_const.statement Cert.KernelIdeal.κ "inv_std1" .f32 0x3C75E325#32 _ rfl,
    IdealRules.named_const.statement Cert.KernelIdeal.κ "mean_std1" .f32 0x3FE044B8#32 _ rfl,
    IdealRules.named_const.statement Cert.KernelIdeal.κ "inv_std2" .f32 0x3C68FB47#32 _ rfl,
    IdealRules.named_const.statement Cert.KernelIdeal.κ "mean_std2" .f32 0x3FBD77D7#32 _ rfl⟩

/-- The kernel's two results and the reference's are the same codes and scales of the same pixels. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.Val.codesOut (Cert.ReferenceIdeal.Val.pixels (Cert.KernelIdeal.Val.arg m c)),
    fun c => Cert.Val.scalesOut (Cert.ReferenceIdeal.Val.pixels (Cert.KernelIdeal.Val.arg m c)), Cert.KernelIdeal.Val.run m g, ?_⟩
  refine θ_run_mono (Cert.ReferenceIdeal.Val.run m' g') fun r h c => ?_
  obtain ⟨h0, h1, h2⟩ := h c
  have e := congrArg Cert.ReferenceIdeal.Val.pixels (hargs c)
  exact ⟨h0.trans (congrArg Cert.Val.codesOut e), h1.trans (congrArg Cert.Val.scalesOut e), h2⟩

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.ReferenceIdeal.Gen.frame m g,
  preserves, algebraic⟩

end Cert.Proof

end
